-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_spread [hPre_weights_spread : Cert.Pre_weights_spread.Facts] (m : (ℓ : Loc Cert.KernelIdeal.nD Cert.KernelIdeal.τ Cert.KernelIdeal.sig) → Buf (Elt Ideal) ℓ) : Prop :=
  ∀ c : Dev Cert.KernelIdeal.nD,
    (Cert.Pre_weights_spread.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_spread [hPre_weights_spread : Cert.Pre_weights_spread.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_spread.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_weights_spread [hKernelIdeal : Cert.KernelIdeal.Facts] [hPre_weights_spread : Cert.Pre_weights_spread.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_spread m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_weights_spread [hReferenceIdeal : Cert.ReferenceIdeal.Facts] [hPre_weights_spread : Cert.Pre_weights_spread.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_spread m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_weights_spread [hKernelIdeal : Cert.KernelIdeal.Facts] [hReferenceIdeal : Cert.ReferenceIdeal.Facts] [hPre_weights_spread : Cert.Pre_weights_spread.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_spread m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v403) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_weights_spread : Cert.Pre_weights_spread.Facts),
    quiescent_Kernel (hKernel := hKernel)
    ∧ quiescent_KernelIdeal (hKernelIdeal := hKernelIdeal)
    ∧ quiescent_KernelIdeal_pre_weights_spread (hKernelIdeal := hKernelIdeal) (hPre_weights_spread := hPre_weights_spread)
    ∧ quiescent_ReferenceIdeal (hReferenceIdeal := hReferenceIdeal)
    ∧ quiescent_ReferenceIdeal_pre_weights_spread (hReferenceIdeal := hReferenceIdeal) (hPre_weights_spread := hPre_weights_spread)
    ∧ preserves_Kernel_KernelIdeal
    ∧ algebraic_KernelIdeal_ReferenceIdeal_pre_weights_spread (hKernelIdeal := hKernelIdeal) (hReferenceIdeal := hReferenceIdeal) (hPre_weights_spread := hPre_weights_spread)
-- ==== Pre_weights_spread.lean ====
abbrev S128x100000 : Shape := ⟨2, ![128, 100000]⟩
abbrev S128x8 : Shape := ⟨2, ![128, 8]⟩
abbrev S_ : Shape := ⟨0, ![]⟩
abbrev S128 : Shape := ⟨1, ![128]⟩
abbrev S128x1 : Shape := ⟨2, ![128, 1]⟩

class Facts : Prop where
  slices_S128x100000_S128x8_0_0 : S128x100000.Slices ![0, 0] S128x8
  reducesTo_S128x8_S128_d1 : S128x8.ReducesTo [1] S128
  h_S_ : 0 < S_.numel
  bcast_S128_S128x1_0 : S128.BroadcastsInDim S128x1 (![0] : Fin 1 → Fin S128x1.rank)
  bcast_S_S128x100000 : S_.BroadcastsInDim S128x100000 (![] : Fin 0 → Fin S128x100000.rank)
  bcast_S_S128x1 : S_.BroadcastsInDim S128x1 (![] : Fin 0 → Fin S128x1.rank)
  bcast_S128x1_S128x100000_0_1 : S128x1.BroadcastsInDim S128x100000 (![0, 1] : Fin 2 → Fin S128x100000.rank)

variable [Facts]

def fn_part1 {F : FTy → Type} [FloatOps F] (main_arg1 : FVec F S128x100000 .f32) (main_v15 : IVec S128x100000 1) (main_v17 : FVec F S128x1 .f32) : IVec S128x100000 1 :=
  let main_v18 : FVec F S128x100000 .f32 := broadcastInDim S128x100000 ![0, 1] bcast_S128x1_S128x100000_0_1 main_v17
  let main_v19 : IVec S128x100000 1 := cmpf .ole main_arg1 main_v18
  let main_v20 : IVec S128x100000 1 := andi main_v15 main_v19
  main_v20

def fn {F : FTy → Type} [FloatOps F] (main_arg0 : FVec F S128x100000 .f32) (main_arg1 : FVec F S128x100000 .f32) : IVec S128x100000 1 :=
  let main_v0 : FVec F S128x8 .f32 := (extractStridedSlice S128x8 ![0, 0] · slices_S128x100000_S128x8_0_0) main_arg0
  let main_cst : FVec F S_ .f32 := constant S_ .f32 0xFF800000#32
  let main_v1 : FVec F S128 .f32 := (fun x v => Host.reduce FloatOps.maximumf x v reducesTo_S128x8_S128_d1 h_S_) main_v0 main_cst
  let main_v2 : FVec F S128x1 .f32 := broadcastInDim S128x1 ![0] bcast_S128_S128x1_0 main_v1
  let main_v3 : FVec F S128x8 .f32 := (extractStridedSlice S128x8 ![0, 0] · slices_S128x100000_S128x8_0_0) main_arg1
  let main_cst_0 : FVec F S_ .f32 := constant S_ .f32 0xFF800000#32
  let main_v4 : FVec F S128 .f32 := (fun x v => Host.reduce FloatOps.maximumf x v reducesTo_S128x8_S128_d1 h_S_) main_v3 main_cst_0
  let main_v5 : FVec F S128x1 .f32 := broadcastInDim S128x1 ![0] bcast_S128_S128x1_0 main_v4
  let main_cst_1 : FVec F S_ .f32 := constant S_ .f32 0x00000000#32
  let main_v6 : FVec F S128x100000 .f32 := broadcastInDim S128x100000 ![] bcast_S_S128x100000 main_cst_1
  let main_v7 : IVec S128x100000 1 := cmpf .oge main_arg0 main_v6
  let main_cst_2 : FVec F S_ .f32 := constant S_ .f32 0x40A00000#32
  let main_v8 : FVec F S128x1 .f32 := broadcastInDim S128x1 ![] bcast_S_S128x1 main_cst_2
  let main_v9 : FVec F S128x1 .f32 := mulf main_v8 main_v2
  let main_v10 : FVec F S128x100000 .f32 := broadcastInDim S128x100000 ![0, 1] bcast_S128x1_S128x100000_0_1 main_v9
  let main_v11 : IVec S128x100000 1 := cmpf .ole main_arg0 main_v10
  let main_v12 : IVec S128x100000 1 := andi main_v7 main_v11
  let main_cst_3 : FVec F S_ .f32 := constant S_ .f32 0x00000000#32
  let main_v13 : FVec F S128x100000 .f32 := broadcastInDim S128x100000 ![] bcast_S_S128x100000 main_cst_3
  let main_v14 : IVec S128x100000 1 := cmpf .oge main_arg1 main_v13
  let main_v15 : IVec S128x100000 1 := andi main_v12 main_v14
  let main_cst_4 : FVec F S_ .f32 := constant S_ .f32 0x40A00000#32
  let main_v16 : FVec F S128x1 .f32 := broadcastInDim S128x1 ![] bcast_S_S128x1 main_cst_4
  let main_v17 : FVec F S128x1 .f32 := mulf main_v16 main_v5
  fn_part1 (F := F) main_arg1 main_v15 main_v17
-- ==== Kernel.lean ====
abbrev S128x100000 : Shape := ⟨2, ![128, 100000]⟩
abbrev S128x32 : Shape := ⟨2, ![128, 32]⟩
abbrev S8x2048 : Shape := ⟨2, ![8, 2048]⟩
abbrev S8x32 : Shape := ⟨2, ![8, 32]⟩
abbrev S32x8x2048 : Shape := ⟨3, ![32, 8, 2048]⟩
abbrev S1x8x2048 : Shape := ⟨3, ![1, 8, 2048]⟩
abbrev S8 : Shape := ⟨1, ![8]⟩
abbrev S8x1 : Shape := ⟨2, ![8, 1]⟩
abbrev S32x128 : Shape := ⟨2, ![32, 128]⟩
abbrev S128x128 : Shape := ⟨2, ![128, 128]⟩
abbrev S128x1 : Shape := ⟨2, ![128, 1]⟩
abbrev S1x128 : Shape := ⟨2, ![1, 128]⟩

abbrev nBuf : Space → Nat
  | .hbm => 6
  | .vmem => 15
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x32, .i32⟩
  | .hbm, ⟨3, _⟩ => ⟨S128x32, .i32⟩
  | .hbm, ⟨4, _⟩ => ⟨S32x128, .i32⟩
  | .hbm, ⟨5, _⟩ => ⟨S128x128, .i32⟩
  | .local _ .vmem, ⟨0, _⟩ => ⟨S8x2048, .f32⟩
  | .local _ .vmem, ⟨1, _⟩ => ⟨S8x2048, .f32⟩
  | .local _ .vmem, ⟨2, _⟩ => ⟨S8x32, .i32⟩
  | .local _ .vmem, ⟨3, _⟩ => ⟨S8x32, .i32⟩
  | .local _ .vmem, ⟨4, _⟩ => ⟨S32x8x2048, .f32⟩
  | .local _ .vmem, ⟨5, _⟩ => ⟨S32x8x2048, .i32⟩
  | .local _ .vmem, ⟨6, _⟩ => ⟨S8x2048, .f32⟩
  | .local _ .vmem, ⟨7, _⟩ => ⟨S8x2048, .f32⟩
  | .local _ .vmem, ⟨8, _⟩ => ⟨S8x32, .i32⟩
  | .local _ .vmem, ⟨9, _⟩ => ⟨S8x32, .i32⟩
  | .local _ .vmem, ⟨10, _⟩ => ⟨S32x8x2048, .f32⟩
  | .local _ .vmem, ⟨11, _⟩ => ⟨S32x8x2048, .i32⟩
  | .local _ .vmem, ⟨12, _⟩ => ⟨S128x32, .i32⟩
  | .local _ .vmem, ⟨13, _⟩ => ⟨S32x128, .i32⟩
  | .local _ .vmem, ⟨14, _⟩ => ⟨S128x128, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem1_0 : DmaSem sig := 9
abbrev cc2_sem2_0 : DmaSem sig := 10

abbrev nD : Nat := 1
abbrev τ : Topo := Topo.v7x

variable {F : FTy → Type} [FloatOps F]

abbrev grid0 : Pipeline.Grid := ⟨2, ![16, 49], ![false, false]⟩

def k0_cond2 (i : grid0.Coords) : BitVec 1 :=
  let arg1 : BitVec 32 := BitVec.ofNat 32 (i 1).val
  let c48_i32 : BitVec 32 := 48#32
  let v5973 : BitVec 1 := Scalar.cmpi .eq arg1 c48_i32
  let v5974 : BitVec 32 := Scalar.extui v5973
  let c0_i32_2066 : BitVec 32 := 0#32
  let v5975 : BitVec 1 := Scalar.cmpi .ne v5974 c0_i32_2066
  v5975

@[reducible] def k0_t1_loop : Scf.Loop 32 :=
  let c0_i32_2068 : BitVec 32 := 0#32
  let c32_i32 : BitVec 32 := 32#32
  let v5978 : BitVec 32 := Scalar.addi c0_i32_2068 c32_i32
  let c1_i32 : BitVec 32 := 1#32
  ⟨c0_i32_2068, v5978, c1_i32⟩
def k0_off1 (k0_t1 : Fin k0_t1_loop.trips) : Fin 3 → Nat :=
  let c0_i32_2068 : BitVec 32 := 0#32
  let c1_i32 : BitVec 32 := 1#32
  let arg6 : BitVec 32 := Scf.iv c0_i32_2068 c1_i32 k0_t1
  let v5981 : Index := Scalar.indexCast arg6
  let c0_2072 : Index := 0#32
  let c0_2073 : Index := 0#32
  ![v5981.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨2, ![16, 49], ![false, false]⟩

def k1_cond2 (i : grid1.Coords) : BitVec 1 :=
  let arg1 : BitVec 32 := BitVec.ofNat 32 (i 1).val
  let c48_i32 : BitVec 32 := 48#32
  let v5973 : BitVec 1 := Scalar.cmpi .eq arg1 c48_i32
  let v5974 : BitVec 32 := Scalar.extui v5973
  let c0_i32_2066 : BitVec 32 := 0#32
  let v5975 : BitVec 1 := Scalar.cmpi .ne v5974 c0_i32_2066
  v5975

@[reducible] def k1_t1_loop : Scf.Loop 32 :=
  let c0_i32_2068 : BitVec 32 := 0#32
  let c32_i32 : BitVec 32 := 32#32
  let v5978 : BitVec 32 := Scalar.addi c0_i32_2068 c32_i32
  let c1_i32 : BitVec 32 := 1#32
  ⟨c0_i32_2068, v5978, c1_i32⟩
def k1_off1 (k1_t1 : Fin k1_t1_loop.trips) : Fin 3 → Nat :=
  let c0_i32_2068 : BitVec 32 := 0#32
  let c1_i32 : BitVec 32 := 1#32
  let arg6 : BitVec 32 := Scf.iv c0_i32_2068 c1_i32 k1_t1
  let v5981 : Index := Scalar.indexCast arg6
  let c0_2072 : Index := 0#32
  let c0_2073 : Index := 0#32
  ![v5981.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S8x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S8x32 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev grid2 : Pipeline.Grid := .none

abbrev stage2_0 : Fin 1 → Memref sig .tc .vmem S128x32 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S32x128 .i32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S128x128 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
-- ==== ReferenceIdeal.lean ====
abbrev S128x100000 : Shape := ⟨2, ![128, 100000]⟩
abbrev S32x128x100000 : Shape := ⟨3, ![32, 128, 100000]⟩
abbrev S_ : Shape := ⟨0, ![]⟩
abbrev S1x128x100000 : Shape := ⟨3, ![1, 128, 100000]⟩
abbrev S32x128 : Shape := ⟨2, ![32, 128]⟩
abbrev S32x128x1 : Shape := ⟨3, ![32, 128, 1]⟩
abbrev S128x32 : Shape := ⟨2, ![128, 32]⟩
abbrev S128x1x32 : Shape := ⟨3, ![128, 1, 32]⟩
abbrev S1x128x32 : Shape := ⟨3, ![1, 128, 32]⟩
abbrev S128x128x32 : Shape := ⟨3, ![128, 128, 32]⟩
abbrev S128x128 : Shape := ⟨2, ![128, 128]⟩

abbrev nBuf : Space → Nat
  | .hbm => 535
  | .vmem => 0
  | .smem => 0
  | _ => 0

abbrev hbmTy0_0 (i : Nat) : BufTy := match i % 128 with
  | 0 => ⟨S128x100000, .f32⟩
  | 1 => ⟨S128x100000, .f32⟩
  | 2 => ⟨S32x128x100000, .i32⟩
  | 3 => ⟨S32x128x100000, .i32⟩
  | 4 => ⟨S32x128x100000, .i32⟩
  | 5 => ⟨S_, .i32⟩
  | 6 => ⟨S32x128x100000, .i32⟩
  | 7 => ⟨S32x128x100000, .i32⟩
  | 8 => ⟨S32x128x100000, .i32⟩
  | 9 => ⟨S_, .i32⟩
  | 10 => ⟨S32x128x100000, .i32⟩
  | 11 => ⟨S32x128x100000, .i32⟩
  | 12 => ⟨S32x128x100000, .i32⟩
  | 13 => ⟨S_, .i32⟩
  | 14 => ⟨S32x128x100000, .i32⟩
  | 15 => ⟨S_, .i32⟩
  | 16 => ⟨S32x128x100000, .i32⟩
  | 17 => ⟨S32x128x100000, .i32⟩
  | 18 => ⟨S_, .i32⟩
  | 19 => ⟨S32x128x100000, .i32⟩
  | 20 => ⟨S32x128x100000, .i32⟩
  | 21 => ⟨S32x128x100000, .i32⟩
  | 22 => ⟨S_, .i32⟩
  | 23 => ⟨S32x128x100000, .i32⟩
  | 24 => ⟨S32x128x100000, .i32⟩
  | 25 => ⟨S_, .i32⟩
  | 26 => ⟨S32x128x100000, .i32⟩
  | 27 => ⟨S32x128x100000, .i32⟩
  | 28 => ⟨S32x128x100000, .i32⟩
  | 29 => ⟨S32x128x100000, .i32⟩
  | 30 => ⟨S32x128x100000, .i32⟩
  | 31 => ⟨S_, .i32⟩
  | 32 => ⟨S32x128x100000, .i32⟩
  | 33 => ⟨S32x128x100000, .i32⟩
  | 34 => ⟨S_, .i32⟩
  | 35 => ⟨S32x128x100000, .i32⟩
  | 36 => ⟨S32x128x100000, .i32⟩
  | 37 => ⟨S32x128x100000, .i32⟩
  | 38 => ⟨S32x128x100000, .i32⟩
  | 39 => ⟨S32x128x100000, .i32⟩
  | 40 => ⟨S_, .i32⟩
  | 41 => ⟨S32x128x100000, .i32⟩
  | 42 => ⟨S32x128x100000, .i32⟩
  | 43 => ⟨S_, .i32⟩
  | 44 => ⟨S32x128x100000, .i32⟩
  | 45 => ⟨S32x128x100000, .i32⟩
  | 46 => ⟨S32x128x100000, .i32⟩
  | 47 => ⟨S32x128x100000, .i32⟩
  | 48 => ⟨S32x128x100000, .i32⟩
  | 49 => ⟨S_, .i32⟩
  | 50 => ⟨S32x128x100000, .i32⟩
  | 51 => ⟨S32x128x100000, .i32⟩
  | 52 => ⟨S_, .i32⟩
  | 53 => ⟨S32x128x100000, .i32⟩
  | 54 => ⟨S32x128x100000, .i32⟩
  | 55 => ⟨S32x128x100000, .i32⟩
  | 56 => ⟨S32x128x100000, .i32⟩
  | 57 => ⟨S_, .i32⟩
  | 58 => ⟨S32x128x100000, .i32⟩
  | 59 => ⟨S32x128x100000, .i32⟩
  | 60 => ⟨S_, .i32⟩
  | 61 => ⟨S32x128x100000, .i32⟩
  | 62 => ⟨S32x128x100000, .i32⟩
  | 63 => ⟨S32x128x100000, .i32⟩
  | 64 => ⟨S_, .i32⟩
  | 65 => ⟨S32x128x100000, .i32⟩
  | 66 => ⟨S32x128x100000, .i32⟩
  | 67 => ⟨S_, .i32⟩
  | 68 => ⟨S32x128x100000, .i32⟩
  | 69 => ⟨S32x128x100000, .i32⟩
  | 70 => ⟨S32x128x100000, .i32⟩
  | 71 => ⟨S32x128x100000, .i32⟩
  | 72 => ⟨S32x128x100000, .i32⟩
  | 73 => ⟨S_, .i32⟩
  | 74 => ⟨S32x128x100000, .i32⟩
  | 75 => ⟨S32x128x100000, .i32⟩
  | 76 => ⟨S_, .i32⟩
  | 77 => ⟨S32x128x100000, .i32⟩
  | 78 => ⟨S32x128x100000, .i32⟩
  | 79 => ⟨S32x128x100000, .i32⟩
  | 80 => ⟨S32x128x100000, .i32⟩
  | 81 => ⟨S32x128x100000, .i32⟩
  | 82 => ⟨S_, .i32⟩
  | 83 => ⟨S32x128x100000, .i32⟩
  | 84 => ⟨S32x128x100000, .i32⟩
  | 85 => ⟨S_, .i32⟩
  | 86 => ⟨S32x128x100000, .i32⟩
  | 87 => ⟨S32x128x100000, .i32⟩
  | 88 => ⟨S32x128x100000, .i32⟩
  | 89 => ⟨S32x128x100000, .i32⟩
  | 90 => ⟨S32x128x100000, .i32⟩
  | 91 => ⟨S_, .i32⟩
  | 92 => ⟨S32x128x100000, .i32⟩
  | 93 => ⟨S32x128x100000, .i32⟩
  | 94 => ⟨S_, .i32⟩
  | 95 => ⟨S32x128x100000, .i32⟩
  | 96 => ⟨S32x128x100000, .i32⟩
  | 97 => ⟨S32x128x100000, .i32⟩
  | 98 => ⟨S32x128x100000, .i32⟩
  | 99 => ⟨S_, .i32⟩
  | 100 => ⟨S32x128x100000, .i32⟩
  | 101 => ⟨S32x128x100000, .i32⟩
  | 102 => ⟨S_, .i32⟩
  | 103 => ⟨S32x128x100000, .i32⟩
  | 104 => ⟨S32x128x100000, .i32⟩
  | 105 => ⟨S32x128x100000, .i32⟩
  | 106 => ⟨S_, .i32⟩
  | 107 => ⟨S32x128x100000, .i32⟩
  | 108 => ⟨S32x128x100000, .i32⟩
  | 109 => ⟨S_, .i32⟩
  | 110 => ⟨S32x128x100000, .i32⟩
  | 111 => ⟨S32x128x100000, .i32⟩
  | 112 => ⟨S32x128x100000, .i32⟩
  | 113 => ⟨S32x128x100000, .i32⟩
  | 114 => ⟨S32x128x100000, .i32⟩
  | 115 => ⟨S_, .i32⟩
  | 116 => ⟨S32x128x100000, .i32⟩
  | 117 => ⟨S32x128x100000, .i32⟩
  | 118 => ⟨S_, .i32⟩
  | 119 => ⟨S32x128x100000, .i32⟩
  | 120 => ⟨S32x128x100000, .i32⟩
  | 121 => ⟨S32x128x100000, .i32⟩
  | 122 => ⟨S32x128x100000, .i32⟩
  | 123 => ⟨S32x128x100000, .i32⟩
  | 124 => ⟨S_, .i32⟩
  | 125 => ⟨S32x128x100000, .i32⟩
  | 126 => ⟨S32x128x100000, .i32⟩
  | 127 => ⟨S_, .i32⟩
  | _ => ⟨S128x100000, .f32⟩

abbrev hbmTy0_1 (i : Nat) : BufTy := match i % 128 with
  | 0 => ⟨S32x128x100000, .i32⟩
  | 1 => ⟨S32x128x100000, .i32⟩
  | 2 => ⟨S32x128x100000, .i32⟩
  | 3 => ⟨S32x128x100000, .i32⟩
  | 4 => ⟨S32x128x100000, .i32⟩
  | 5 => ⟨S_, .i32⟩
  | 6 => ⟨S32x128x100000, .i32⟩
  | 7 => ⟨S32x128x100000, .i32⟩
  | 8 => ⟨S_, .i32⟩
  | 9 => ⟨S32x128x100000, .i32⟩
  | 10 => ⟨S32x128x100000, .i32⟩
  | 11 => ⟨S32x128x100000, .i32⟩
  | 12 => ⟨S32x128x100000, .i32⟩
  | 13 => ⟨S_, .i32⟩
  | 14 => ⟨S32x128x100000, .i32⟩
  | 15 => ⟨S32x128x100000, .i32⟩
  | 16 => ⟨S_, .i32⟩
  | 17 => ⟨S32x128x100000, .i32⟩
  | 18 => ⟨S32x128x100000, .i32⟩
  | 19 => ⟨S32x128x100000, .i32⟩
  | 20 => ⟨S_, .i32⟩
  | 21 => ⟨S32x128x100000, .i32⟩
  | 22 => ⟨S32x128x100000, .i32⟩
  | 23 => ⟨S_, .i32⟩
  | 24 => ⟨S32x128x100000, .i32⟩
  | 25 => ⟨S32x128x100000, .i32⟩
  | 26 => ⟨S32x128x100000, .i32⟩
  | 27 => ⟨S32x128x100000, .i32⟩
  | 28 => ⟨S32x128x100000, .i32⟩
  | 29 => ⟨S_, .i32⟩
  | 30 => ⟨S32x128x100000, .i32⟩
  | 31 => ⟨S32x128x100000, .i32⟩
  | 32 => ⟨S_, .i32⟩
  | 33 => ⟨S32x128x100000, .i32⟩
  | 34 => ⟨S32x128x100000, .i32⟩
  | 35 => ⟨S32x128x100000, .i32⟩
  | 36 => ⟨S32x128x100000, .i32⟩
  | 37 => ⟨S32x128x100000, .i32⟩
  | 38 => ⟨S_, .i32⟩
  | 39 => ⟨S32x128x100000, .i32⟩
  | 40 => ⟨S32x128x100000, .i32⟩
  | 41 => ⟨S_, .i32⟩
  | 42 => ⟨S32x128x100000, .i32⟩
  | 43 => ⟨S32x128x100000, .i32⟩
  | 44 => ⟨S32x128x100000, .i32⟩
  | 45 => ⟨S32x128x100000, .i32⟩
  | 46 => ⟨S32x128x100000, .i32⟩
  | 47 => ⟨S_, .i32⟩
  | 48 => ⟨S32x128x100000, .i32⟩
  | 49 => ⟨S32x128x100000, .i32⟩
  | 50 => ⟨S_, .i32⟩
  | 51 => ⟨S32x128x100000, .i32⟩
  | 52 => ⟨S32x128x100000, .i32⟩
  | 53 => ⟨S32x128x100000, .i32⟩
  | 54 => ⟨S32x128x100000, .i32⟩
  | 55 => ⟨S_, .i32⟩
  | 56 => ⟨S32x128x100000, .i32⟩
  | 57 => ⟨S32x128x100000, .i32⟩
  | 58 => ⟨S_, .i32⟩
  | 59 => ⟨S32x128x100000, .i32⟩
  | 60 => ⟨S32x128x100000, .i32⟩
  | 61 => ⟨S32x128x100000, .i32⟩
  | 62 => ⟨S_, .i32⟩
  | 63 => ⟨S32x128x100000, .i32⟩
  | 64 => ⟨S32x128x100000, .i32⟩
  | 65 => ⟨S_, .i32⟩
  | 66 => ⟨S32x128x100000, .i32⟩
  | 67 => ⟨S32x128x100000, .i32⟩
  | 68 => ⟨S32x128x100000, .i32⟩
  | 69 => ⟨S32x128x100000, .i32⟩
  | 70 => ⟨S32x128x100000, .i32⟩
  | 71 => ⟨S_, .i32⟩
  | 72 => ⟨S32x128x100000, .i32⟩
  | 73 => ⟨S32x128x100000, .i32⟩
  | 74 => ⟨S_, .i32⟩
  | 75 => ⟨S32x128x100000, .i32⟩
  | 76 => ⟨S32x128x100000, .i32⟩
  | 77 => ⟨S32x128x100000, .i32⟩
  | 78 => ⟨S32x128x100000, .i32⟩
  | 79 => ⟨S32x128x100000, .i32⟩
  | 80 => ⟨S_, .i32⟩
  | 81 => ⟨S32x128x100000, .i32⟩
  | 82 => ⟨S32x128x100000, .i32⟩
  | 83 => ⟨S_, .i32⟩
  | 84 => ⟨S32x128x100000, .i32⟩
  | 85 => ⟨S32x128x100000, .i32⟩
  | 86 => ⟨S32x128x100000, .i32⟩
  | 87 => ⟨S32x128x100000, .i32⟩
  | 88 => ⟨S32x128x100000, .i32⟩
  | 89 => ⟨S_, .i32⟩
  | 90 => ⟨S32x128x100000, .i32⟩
  | 91 => ⟨S32x128x100000, .i32⟩
  | 92 => ⟨S_, .i32⟩
  | 93 => ⟨S32x128x100000, .i32⟩
  | 94 => ⟨S32x128x100000, .i32⟩
  | 95 => ⟨S32x128x100000, .i32⟩
  | 96 => ⟨S32x128x100000, .i32⟩
  | 97 => ⟨S_, .i32⟩
  | 98 => ⟨S32x128x100000, .i32⟩
  | 99 => ⟨S32x128x100000, .i32⟩
  | 100 => ⟨S_, .i32⟩
  | 101 => ⟨S32x128x100000, .i32⟩
  | 102 => ⟨S32x128x100000, .i32⟩
  | 103 => ⟨S32x128x100000, .i32⟩
  | 104 => ⟨S_, .i32⟩
  | 105 => ⟨S32x128x100000, .i32⟩
  | 106 => ⟨S32x128x100000, .i32⟩
  | 107 => ⟨S_, .i32⟩
  | 108 => ⟨S32x128x100000, .i32⟩
  | 109 => ⟨S32x128x100000, .i32⟩
  | 110 => ⟨S32x128x100000, .f32⟩
  | 111 => ⟨S_, .f32⟩
  | 112 => ⟨S32x128x100000, .f32⟩
  | 113 => ⟨S32x128x100000, .f32⟩
  | 114 => ⟨S_, .f32⟩
  | 115 => ⟨S32x128x100000, .f32⟩
  | 116 => ⟨S32x128x100000, .f32⟩
  | 117 => ⟨S128x100000, .f32⟩
  | 118 => ⟨S32x128x100000, .f32⟩
  | 119 => ⟨S32x128x100000, .f32⟩
  | 120 => ⟨S32x128x100000, .f32⟩
  | 121 => ⟨S1x128x100000, .f32⟩
  | 122 => ⟨S32x128x100000, .f32⟩
  | 123 => ⟨S32x128x100000, .f32⟩
  | 124 => ⟨S32x128x100000, .i32⟩
  | 125 => ⟨S_, .f32⟩
  | 126 => ⟨S32x128, .f32⟩
  | 127 => ⟨S32x128x1, .f32⟩
  | _ => ⟨S128x100000, .f32⟩

abbrev hbmTy0_2 (i : Nat) : BufTy := match i % 128 with
  | 0 => ⟨S32x128x100000, .f32⟩
  | 1 => ⟨S32x128x100000, .i1⟩
  | 2 => ⟨S_, .i32⟩
  | 3 => ⟨S_, .i32⟩
  | 4 => ⟨S32x128x100000, .i32⟩
  | 5 => ⟨S32x128x100000, .i32⟩
  | 6 => ⟨S_, .i32⟩
  | 7 => ⟨S32x128, .i32⟩
  | 8 => ⟨S128x32, .i32⟩
  | 9 => ⟨S32x128x100000, .i32⟩
  | 10 => ⟨S32x128x100000, .i32⟩
  | 11 => ⟨S32x128x100000, .i32⟩
  | 12 => ⟨S_, .i32⟩
  | 13 => ⟨S32x128x100000, .i32⟩
  | 14 => ⟨S32x128x100000, .i32⟩
  | 15 => ⟨S32x128x100000, .i32⟩
  | 16 => ⟨S_, .i32⟩
  | 17 => ⟨S32x128x100000, .i32⟩
  | 18 => ⟨S32x128x100000, .i32⟩
  | 19 => ⟨S32x128x100000, .i32⟩
  | 20 => ⟨S_, .i32⟩
  | 21 => ⟨S32x128x100000, .i32⟩
  | 22 => ⟨S_, .i32⟩
  | 23 => ⟨S32x128x100000, .i32⟩
  | 24 => ⟨S32x128x100000, .i32⟩
  | 25 => ⟨S_, .i32⟩
  | 26 => ⟨S32x128x100000, .i32⟩
  | 27 => ⟨S32x128x100000, .i32⟩
  | 28 => ⟨S32x128x100000, .i32⟩
  | 29 => ⟨S_, .i32⟩
  | 30 => ⟨S32x128x100000, .i32⟩
  | 31 => ⟨S32x128x100000, .i32⟩
  | 32 => ⟨S_, .i32⟩
  | 33 => ⟨S32x128x100000, .i32⟩
  | 34 => ⟨S32x128x100000, .i32⟩
  | 35 => ⟨S32x128x100000, .i32⟩
  | 36 => ⟨S32x128x100000, .i32⟩
  | 37 => ⟨S32x128x100000, .i32⟩
  | 38 => ⟨S_, .i32⟩
  | 39 => ⟨S32x128x100000, .i32⟩
  | 40 => ⟨S32x128x100000, .i32⟩
  | 41 => ⟨S_, .i32⟩
  | 42 => ⟨S32x128x100000, .i32⟩
  | 43 => ⟨S32x128x100000, .i32⟩
  | 44 => ⟨S32x128x100000, .i32⟩
  | 45 => ⟨S32x128x100000, .i32⟩
  | 46 => ⟨S32x128x100000, .i32⟩
  | 47 => ⟨S_, .i32⟩
  | 48 => ⟨S32x128x100000, .i32⟩
  | 49 => ⟨S32x128x100000, .i32⟩
  | 50 => ⟨S_, .i32⟩
  | 51 => ⟨S32x128x100000, .i32⟩
  | 52 => ⟨S32x128x100000, .i32⟩
  | 53 => ⟨S32x128x100000, .i32⟩
  | 54 => ⟨S32x128x100000, .i32⟩
  | 55 => ⟨S32x128x100000, .i32⟩
  | 56 => ⟨S_, .i32⟩
  | 57 => ⟨S32x128x100000, .i32⟩
  | 58 => ⟨S32x128x100000, .i32⟩
  | 59 => ⟨S_, .i32⟩
  | 60 => ⟨S32x128x100000, .i32⟩
  | 61 => ⟨S32x128x100000, .i32⟩
  | 62 => ⟨S32x128x100000, .i32⟩
  | 63 => ⟨S32x128x100000, .i32⟩
  | 64 => ⟨S_, .i32⟩
  | 65 => ⟨S32x128x100000, .i32⟩
  | 66 => ⟨S32x128x100000, .i32⟩
  | 67 => ⟨S_, .i32⟩
  | 68 => ⟨S32x128x100000, .i32⟩
  | 69 => ⟨S32x128x100000, .i32⟩
  | 70 => ⟨S32x128x100000, .i32⟩
  | 71 => ⟨S_, .i32⟩
  | 72 => ⟨S32x128x100000, .i32⟩
  | 73 => ⟨S32x128x100000, .i32⟩
  | 74 => ⟨S_, .i32⟩
  | 75 => ⟨S32x128x100000, .i32⟩
  | 76 => ⟨S32x128x100000, .i32⟩
  | 77 => ⟨S32x128x100000, .i32⟩
  | 78 => ⟨S32x128x100000, .i32⟩
  | 79 => ⟨S32x128x100000, .i32⟩
  | 80 => ⟨S_, .i32⟩
  | 81 => ⟨S32x128x100000, .i32⟩
  | 82 => ⟨S32x128x100000, .i32⟩
  | 83 => ⟨S_, .i32⟩
  | 84 => ⟨S32x128x100000, .i32⟩
  | 85 => ⟨S32x128x100000, .i32⟩
  | 86 => ⟨S32x128x100000, .i32⟩
  | 87 => ⟨S32x128x100000, .i32⟩
  | 88 => ⟨S32x128x100000, .i32⟩
  | 89 => ⟨S_, .i32⟩
  | 90 => ⟨S32x128x100000, .i32⟩
  | 91 => ⟨S32x128x100000, .i32⟩
  | 92 => ⟨S_, .i32⟩
  | 93 => ⟨S32x128x100000, .i32⟩
  | 94 => ⟨S32x128x100000, .i32⟩
  | 95 => ⟨S32x128x100000, .i32⟩
  | 96 => ⟨S32x128x100000, .i32⟩
  | 97 => ⟨S32x128x100000, .i32⟩
  | 98 => ⟨S_, .i32⟩
  | 99 => ⟨S32x128x100000, .i32⟩
  | 100 => ⟨S32x128x100000, .i32⟩
  | 101 => ⟨S_, .i32⟩
  | 102 => ⟨S32x128x100000, .i32⟩
  | 103 => ⟨S32x128x100000, .i32⟩
  | 104 => ⟨S32x128x100000, .i32⟩
  | 105 => ⟨S32x128x100000, .i32⟩
  | 106 => ⟨S_, .i32⟩
  | 107 => ⟨S32x128x100000, .i32⟩
  | 108 => ⟨S32x128x100000, .i32⟩
  | 109 => ⟨S_, .i32⟩
  | 110 => ⟨S32x128x100000, .i32⟩
  | 111 => ⟨S32x128x100000, .i32⟩
  | 112 => ⟨S32x128x100000, .i32⟩
  | 113 => ⟨S_, .i32⟩
  | 114 => ⟨S32x128x100000, .i32⟩
  | 115 => ⟨S32x128x100000, .i32⟩
  | 116 => ⟨S_, .i32⟩
  | 117 => ⟨S32x128x100000, .i32⟩
  | 118 => ⟨S32x128x100000, .i32⟩
  | 119 => ⟨S32x128x100000, .i32⟩
  | 120 => ⟨S32x128x100000, .i32⟩
  | 121 => ⟨S32x128x100000, .i32⟩
  | 122 => ⟨S_, .i32⟩
  | 123 => ⟨S32x128x100000, .i32⟩
  | 124 => ⟨S32x128x100000, .i32⟩
  | 125 => ⟨S_, .i32⟩
  | 126 => ⟨S32x128x100000, .i32⟩
  | 127 => ⟨S32x128x100000, .i32⟩
  | _ => ⟨S128x100000, .f32⟩

abbrev hbmTy0_3 (i : Nat) : BufTy := match i % 128 with
  | 0 => ⟨S32x128x100000, .i32⟩
  | 1 => ⟨S32x128x100000, .i32⟩
  | 2 => ⟨S32x128x100000, .i32⟩
  | 3 => ⟨S_, .i32⟩
  | 4 => ⟨S32x128x100000, .i32⟩
  | 5 => ⟨S32x128x100000, .i32⟩
  | 6 => ⟨S_, .i32⟩
  | 7 => ⟨S32x128x100000, .i32⟩
  | 8 => ⟨S32x128x100000, .i32⟩
  | 9 => ⟨S32x128x100000, .i32⟩
  | 10 => ⟨S32x128x100000, .i32⟩
  | 11 => ⟨S32x128x100000, .i32⟩
  | 12 => ⟨S_, .i32⟩
  | 13 => ⟨S32x128x100000, .i32⟩
  | 14 => ⟨S32x128x100000, .i32⟩
  | 15 => ⟨S_, .i32⟩
  | 16 => ⟨S32x128x100000, .i32⟩
  | 17 => ⟨S32x128x100000, .i32⟩
  | 18 => ⟨S32x128x100000, .i32⟩
  | 19 => ⟨S32x128x100000, .i32⟩
  | 20 => ⟨S_, .i32⟩
  | 21 => ⟨S32x128x100000, .i32⟩
  | 22 => ⟨S32x128x100000, .i32⟩
  | 23 => ⟨S_, .i32⟩
  | 24 => ⟨S32x128x100000, .i32⟩
  | 25 => ⟨S32x128x100000, .i32⟩
  | 26 => ⟨S32x128x100000, .i32⟩
  | 27 => ⟨S_, .i32⟩
  | 28 => ⟨S32x128x100000, .i32⟩
  | 29 => ⟨S32x128x100000, .i32⟩
  | 30 => ⟨S_, .i32⟩
  | 31 => ⟨S32x128x100000, .i32⟩
  | 32 => ⟨S32x128x100000, .i32⟩
  | 33 => ⟨S32x128x100000, .i32⟩
  | 34 => ⟨S32x128x100000, .i32⟩
  | 35 => ⟨S32x128x100000, .i32⟩
  | 36 => ⟨S_, .i32⟩
  | 37 => ⟨S32x128x100000, .i32⟩
  | 38 => ⟨S32x128x100000, .i32⟩
  | 39 => ⟨S_, .i32⟩
  | 40 => ⟨S32x128x100000, .i32⟩
  | 41 => ⟨S32x128x100000, .i32⟩
  | 42 => ⟨S32x128x100000, .i32⟩
  | 43 => ⟨S32x128x100000, .i32⟩
  | 44 => ⟨S32x128x100000, .i32⟩
  | 45 => ⟨S_, .i32⟩
  | 46 => ⟨S32x128x100000, .i32⟩
  | 47 => ⟨S32x128x100000, .i32⟩
  | 48 => ⟨S_, .i32⟩
  | 49 => ⟨S32x128x100000, .i32⟩
  | 50 => ⟨S32x128x100000, .i32⟩
  | 51 => ⟨S32x128x100000, .i32⟩
  | 52 => ⟨S32x128x100000, .i32⟩
  | 53 => ⟨S32x128x100000, .i32⟩
  | 54 => ⟨S_, .i32⟩
  | 55 => ⟨S32x128x100000, .i32⟩
  | 56 => ⟨S32x128x100000, .i32⟩
  | 57 => ⟨S_, .i32⟩
  | 58 => ⟨S32x128x100000, .i32⟩
  | 59 => ⟨S32x128x100000, .i32⟩
  | 60 => ⟨S32x128x100000, .i32⟩
  | 61 => ⟨S32x128x100000, .i32⟩
  | 62 => ⟨S_, .i32⟩
  | 63 => ⟨S32x128x100000, .i32⟩
  | 64 => ⟨S32x128x100000, .i32⟩
  | 65 => ⟨S_, .i32⟩
  | 66 => ⟨S32x128x100000, .i32⟩
  | 67 => ⟨S32x128x100000, .i32⟩
  | 68 => ⟨S32x128x100000, .i32⟩
  | 69 => ⟨S_, .i32⟩
  | 70 => ⟨S32x128x100000, .i32⟩
  | 71 => ⟨S32x128x100000, .i32⟩
  | 72 => ⟨S_, .i32⟩
  | 73 => ⟨S32x128x100000, .i32⟩
  | 74 => ⟨S32x128x100000, .i32⟩
  | 75 => ⟨S32x128x100000, .i32⟩
  | 76 => ⟨S32x128x100000, .i32⟩
  | 77 => ⟨S32x128x100000, .i32⟩
  | 78 => ⟨S_, .i32⟩
  | 79 => ⟨S32x128x100000, .i32⟩
  | 80 => ⟨S32x128x100000, .i32⟩
  | 81 => ⟨S_, .i32⟩
  | 82 => ⟨S32x128x100000, .i32⟩
  | 83 => ⟨S32x128x100000, .i32⟩
  | 84 => ⟨S32x128x100000, .i32⟩
  | 85 => ⟨S32x128x100000, .i32⟩
  | 86 => ⟨S32x128x100000, .i32⟩
  | 87 => ⟨S_, .i32⟩
  | 88 => ⟨S32x128x100000, .i32⟩
  | 89 => ⟨S32x128x100000, .i32⟩
  | 90 => ⟨S_, .i32⟩
  | 91 => ⟨S32x128x100000, .i32⟩
  | 92 => ⟨S32x128x100000, .i32⟩
  | 93 => ⟨S32x128x100000, .i32⟩
  | 94 => ⟨S32x128x100000, .i32⟩
  | 95 => ⟨S32x128x100000, .i32⟩
  | 96 => ⟨S_, .i32⟩
  | 97 => ⟨S32x128x100000, .i32⟩
  | 98 => ⟨S32x128x100000, .i32⟩
  | 99 => ⟨S_, .i32⟩
  | 100 => ⟨S32x128x100000, .i32⟩
  | 101 => ⟨S32x128x100000, .i32⟩
  | 102 => ⟨S32x128x100000, .i32⟩
  | 103 => ⟨S32x128x100000, .i32⟩
  | 104 => ⟨S_, .i32⟩
  | 105 => ⟨S32x128x100000, .i32⟩
  | 106 => ⟨S32x128x100000, .i32⟩
  | 107 => ⟨S_, .i32⟩
  | 108 => ⟨S32x128x100000, .i32⟩
  | 109 => ⟨S32x128x100000, .i32⟩
  | 110 => ⟨S32x128x100000, .i32⟩
  | 111 => ⟨S_, .i32⟩
  | 112 => ⟨S32x128x100000, .i32⟩
  | 113 => ⟨S32x128x100000, .i32⟩
  | 114 => ⟨S_, .i32⟩
  | 115 => ⟨S32x128x100000, .i32⟩
  | 116 => ⟨S32x128x100000, .i32⟩
  | 117 => ⟨S32x128x100000, .f32⟩
  | 118 => ⟨S_, .f32⟩
  | 119 => ⟨S32x128x100000, .f32⟩
  | 120 => ⟨S32x128x100000, .f32⟩
  | 121 => ⟨S_, .f32⟩
  | 122 => ⟨S32x128x100000, .f32⟩
  | 123 => ⟨S32x128x100000, .f32⟩
  | 124 => ⟨S128x100000, .f32⟩
  | 125 => ⟨S32x128x100000, .f32⟩
  | 126 => ⟨S32x128x100000, .f32⟩
  | 127 => ⟨S32x128x100000, .f32⟩
  | _ => ⟨S128x100000, .f32⟩

abbrev hbmTy0_4 (i : Nat) : BufTy := match i % 128 with
  | 0 => ⟨S1x128x100000, .f32⟩
  | 1 => ⟨S32x128x100000, .f32⟩
  | 2 => ⟨S32x128x100000, .f32⟩
  | 3 => ⟨S32x128x100000, .i32⟩
  | 4 => ⟨S_, .f32⟩
  | 5 => ⟨S32x128, .f32⟩
  | 6 => ⟨S32x128x1, .f32⟩
  | 7 => ⟨S32x128x100000, .f32⟩
  | 8 => ⟨S32x128x100000, .i1⟩
  | 9 => ⟨S_, .i32⟩
  | 10 => ⟨S_, .i32⟩
  | 11 => ⟨S32x128x100000, .i32⟩
  | 12 => ⟨S32x128x100000, .i32⟩
  | 13 => ⟨S_, .i32⟩
  | 14 => ⟨S32x128, .i32⟩
  | 15 => ⟨S128x32, .i32⟩
  | 16 => ⟨S128x1x32, .i32⟩
  | 17 => ⟨S1x128x32, .i32⟩
  | 18 => ⟨S128x128x32, .i32⟩
  | 19 => ⟨S128x128x32, .i32⟩
  | 20 => ⟨S128x128x32, .i32⟩
  | 21 => ⟨S_, .i32⟩
  | 22 => ⟨S128x128, .i32⟩
  | _ => ⟨S128x100000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_1 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_c_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_4 : Ref sig .tc := ⟨.hbm, 22, rfl⟩
abbrev main_v15 : Ref sig .tc := ⟨.hbm, 23, rfl⟩
abbrev main_v16 : Ref sig .tc := ⟨.hbm, 24, rfl⟩
abbrev main_c_5 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_6 : Ref sig .tc := ⟨.hbm, 31, rfl⟩
abbrev main_v22 : Ref sig .tc := ⟨.hbm, 32, rfl⟩
abbrev main_v23 : Ref sig .tc := ⟨.hbm, 33, rfl⟩
abbrev main_c_7 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_8 : Ref sig .tc := ⟨.hbm, 40, rfl⟩
abbrev main_v29 : Ref sig .tc := ⟨.hbm, 41, rfl⟩
abbrev main_v30 : Ref sig .tc := ⟨.hbm, 42, rfl⟩
abbrev main_c_9 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_10 : Ref sig .tc := ⟨.hbm, 49, rfl⟩
abbrev main_v36 : Ref sig .tc := ⟨.hbm, 50, rfl⟩
abbrev main_v37 : Ref sig .tc := ⟨.hbm, 51, rfl⟩
abbrev main_c_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_c_12 : Ref sig .tc := ⟨.hbm, 57, rfl⟩
abbrev main_v42 : Ref sig .tc := ⟨.hbm, 58, rfl⟩
abbrev main_v43 : Ref sig .tc := ⟨.hbm, 59, rfl⟩
abbrev main_c_13 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_14 : Ref sig .tc := ⟨.hbm, 64, rfl⟩
abbrev main_v47 : Ref sig .tc := ⟨.hbm, 65, rfl⟩
abbrev main_v48 : Ref sig .tc := ⟨.hbm, 66, rfl⟩
abbrev main_c_15 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_16 : Ref sig .tc := ⟨.hbm, 73, rfl⟩
abbrev main_v54 : Ref sig .tc := ⟨.hbm, 74, rfl⟩
abbrev main_v55 : Ref sig .tc := ⟨.hbm, 75, rfl⟩
abbrev main_c_17 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_18 : Ref sig .tc := ⟨.hbm, 82, rfl⟩
abbrev main_v61 : Ref sig .tc := ⟨.hbm, 83, rfl⟩
abbrev main_v62 : Ref sig .tc := ⟨.hbm, 84, rfl⟩
abbrev main_c_19 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_20 : Ref sig .tc := ⟨.hbm, 91, rfl⟩
abbrev main_v68 : Ref sig .tc := ⟨.hbm, 92, rfl⟩
abbrev main_v69 : Ref sig .tc := ⟨.hbm, 93, rfl⟩
abbrev main_c_21 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_c_22 : Ref sig .tc := ⟨.hbm, 99, rfl⟩
abbrev main_v74 : Ref sig .tc := ⟨.hbm, 100, rfl⟩
abbrev main_v75 : Ref sig .tc := ⟨.hbm, 101, rfl⟩
abbrev main_c_23 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_24 : Ref sig .tc := ⟨.hbm, 106, rfl⟩
abbrev main_v79 : Ref sig .tc := ⟨.hbm, 107, rfl⟩
abbrev main_v80 : Ref sig .tc := ⟨.hbm, 108, rfl⟩
abbrev main_c_25 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_26 : Ref sig .tc := ⟨.hbm, 115, rfl⟩
abbrev main_v86 : Ref sig .tc := ⟨.hbm, 116, rfl⟩
abbrev main_v87 : Ref sig .tc := ⟨.hbm, 117, rfl⟩
abbrev main_c_27 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_28 : Ref sig .tc := ⟨.hbm, 124, rfl⟩
abbrev main_v93 : Ref sig .tc := ⟨.hbm, 125, rfl⟩
abbrev main_v94 : Ref sig .tc := ⟨.hbm, 126, rfl⟩
abbrev main_c_29 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_c_30 : Ref sig .tc := ⟨.hbm, 133, rfl⟩
abbrev main_v100 : Ref sig .tc := ⟨.hbm, 134, rfl⟩
abbrev main_v101 : Ref sig .tc := ⟨.hbm, 135, rfl⟩
abbrev main_c_31 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_c_32 : Ref sig .tc := ⟨.hbm, 141, rfl⟩
abbrev main_v106 : Ref sig .tc := ⟨.hbm, 142, rfl⟩
abbrev main_v107 : Ref sig .tc := ⟨.hbm, 143, rfl⟩
abbrev main_c_33 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_c_34 : Ref sig .tc := ⟨.hbm, 148, rfl⟩
abbrev main_v111 : Ref sig .tc := ⟨.hbm, 149, rfl⟩
abbrev main_v112 : Ref sig .tc := ⟨.hbm, 150, rfl⟩
abbrev main_c_35 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_c_36 : Ref sig .tc := ⟨.hbm, 157, rfl⟩
abbrev main_v118 : Ref sig .tc := ⟨.hbm, 158, rfl⟩
abbrev main_v119 : Ref sig .tc := ⟨.hbm, 159, rfl⟩
abbrev main_c_37 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_c_38 : Ref sig .tc := ⟨.hbm, 166, rfl⟩
abbrev main_v125 : Ref sig .tc := ⟨.hbm, 167, rfl⟩
abbrev main_v126 : Ref sig .tc := ⟨.hbm, 168, rfl⟩
abbrev main_c_39 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_c_40 : Ref sig .tc := ⟨.hbm, 175, rfl⟩
abbrev main_v132 : Ref sig .tc := ⟨.hbm, 176, rfl⟩
abbrev main_v133 : Ref sig .tc := ⟨.hbm, 177, rfl⟩
abbrev main_c_41 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_c_42 : Ref sig .tc := ⟨.hbm, 183, rfl⟩
abbrev main_v138 : Ref sig .tc := ⟨.hbm, 184, rfl⟩
abbrev main_v139 : Ref sig .tc := ⟨.hbm, 185, rfl⟩
abbrev main_c_43 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_44 : Ref sig .tc := ⟨.hbm, 190, rfl⟩
abbrev main_v143 : Ref sig .tc := ⟨.hbm, 191, rfl⟩
abbrev main_v144 : Ref sig .tc := ⟨.hbm, 192, rfl⟩
abbrev main_c_45 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_c_46 : Ref sig .tc := ⟨.hbm, 199, rfl⟩
abbrev main_v150 : Ref sig .tc := ⟨.hbm, 200, rfl⟩
abbrev main_v151 : Ref sig .tc := ⟨.hbm, 201, rfl⟩
abbrev main_c_47 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_c_48 : Ref sig .tc := ⟨.hbm, 208, rfl⟩
abbrev main_v157 : Ref sig .tc := ⟨.hbm, 209, rfl⟩
abbrev main_v158 : Ref sig .tc := ⟨.hbm, 210, rfl⟩
abbrev main_c_49 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_50 : Ref sig .tc := ⟨.hbm, 217, rfl⟩
abbrev main_v164 : Ref sig .tc := ⟨.hbm, 218, rfl⟩
abbrev main_v165 : Ref sig .tc := ⟨.hbm, 219, rfl⟩
abbrev main_c_51 : Ref sig .tc := ⟨.hbm, 220, rfl⟩
abbrev main_v166 : Ref sig .tc := ⟨.hbm, 221, rfl⟩
abbrev main_v167 : Ref sig .tc := ⟨.hbm, 222, rfl⟩
abbrev main_v168 : Ref sig .tc := ⟨.hbm, 223, rfl⟩
abbrev main_v169 : Ref sig .tc := ⟨.hbm, 224, rfl⟩
abbrev main_c_52 : Ref sig .tc := ⟨.hbm, 225, rfl⟩
abbrev main_v170 : Ref sig .tc := ⟨.hbm, 226, rfl⟩
abbrev main_v171 : Ref sig .tc := ⟨.hbm, 227, rfl⟩
abbrev main_c_53 : Ref sig .tc := ⟨.hbm, 228, rfl⟩
abbrev main_v172 : Ref sig .tc := ⟨.hbm, 229, rfl⟩
abbrev main_v173 : Ref sig .tc := ⟨.hbm, 230, rfl⟩
abbrev main_v174 : Ref sig .tc := ⟨.hbm, 231, rfl⟩
abbrev main_c_54 : Ref sig .tc := ⟨.hbm, 232, rfl⟩
abbrev main_v175 : Ref sig .tc := ⟨.hbm, 233, rfl⟩
abbrev main_v176 : Ref sig .tc := ⟨.hbm, 234, rfl⟩
abbrev main_c_55 : Ref sig .tc := ⟨.hbm, 235, rfl⟩
abbrev main_v177 : Ref sig .tc := ⟨.hbm, 236, rfl⟩
abbrev main_v178 : Ref sig .tc := ⟨.hbm, 237, rfl⟩
abbrev main_v179 : Ref sig .tc := ⟨.hbm, 238, rfl⟩
abbrev main_cst : Ref sig .tc := ⟨.hbm, 239, rfl⟩
abbrev main_v180 : Ref sig .tc := ⟨.hbm, 240, rfl⟩
abbrev main_v181 : Ref sig .tc := ⟨.hbm, 241, rfl⟩
abbrev main_cst_56 : Ref sig .tc := ⟨.hbm, 242, rfl⟩
abbrev main_v182 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_v190 : Ref sig .tc := ⟨.hbm, 251, rfl⟩
abbrev main_v191 : Ref sig .tc := ⟨.hbm, 252, rfl⟩
abbrev main_cst_57 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_c_58 : Ref sig .tc := ⟨.hbm, 258, rfl⟩
abbrev main_call0_v0 : Ref sig .tc := ⟨.hbm, 259, rfl⟩
abbrev main_call0_v1 : Ref sig .tc := ⟨.hbm, 260, rfl⟩
abbrev main_v196 : Ref sig .tc := ⟨.hbm, 261, rfl⟩
abbrev main_c_59 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_v201 : Ref sig .tc := ⟨.hbm, 267, rfl⟩
abbrev main_c_60 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_c_61 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_c_62 : Ref sig .tc := ⟨.hbm, 276, rfl⟩
abbrev main_v208 : Ref sig .tc := ⟨.hbm, 277, rfl⟩
abbrev main_c_63 : Ref sig .tc := ⟨.hbm, 278, rfl⟩
abbrev main_v209 : Ref sig .tc := ⟨.hbm, 279, rfl⟩
abbrev main_v210 : Ref sig .tc := ⟨.hbm, 280, rfl⟩
abbrev main_c_64 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_65 : Ref sig .tc := ⟨.hbm, 285, rfl⟩
abbrev main_v214 : Ref sig .tc := ⟨.hbm, 286, rfl⟩
abbrev main_v215 : Ref sig .tc := ⟨.hbm, 287, rfl⟩
abbrev main_c_66 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_c_67 : Ref sig .tc := ⟨.hbm, 294, rfl⟩
abbrev main_v221 : Ref sig .tc := ⟨.hbm, 295, rfl⟩
abbrev main_v222 : Ref sig .tc := ⟨.hbm, 296, rfl⟩
abbrev main_c_68 : Ref sig .tc := ⟨.hbm, 297, rfl⟩
abbrev main_v223 : Ref sig .tc := ⟨.hbm, 298, rfl⟩
abbrev main_v224 : Ref sig .tc := ⟨.hbm, 299, rfl⟩
abbrev main_v225 : Ref sig .tc := ⟨.hbm, 300, rfl⟩
abbrev main_v226 : Ref sig .tc := ⟨.hbm, 301, rfl⟩
abbrev main_v227 : Ref sig .tc := ⟨.hbm, 302, rfl⟩
abbrev main_c_69 : Ref sig .tc := ⟨.hbm, 303, rfl⟩
abbrev main_v228 : Ref sig .tc := ⟨.hbm, 304, rfl⟩
abbrev main_v229 : Ref sig .tc := ⟨.hbm, 305, rfl⟩
abbrev main_c_70 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_c_71 : Ref sig .tc := ⟨.hbm, 312, rfl⟩
abbrev main_v235 : Ref sig .tc := ⟨.hbm, 313, rfl⟩
abbrev main_v236 : Ref sig .tc := ⟨.hbm, 314, rfl⟩
abbrev main_c_72 : Ref sig .tc := ⟨.hbm, 315, rfl⟩
abbrev main_v237 : Ref sig .tc := ⟨.hbm, 316, rfl⟩
abbrev main_v238 : Ref sig .tc := ⟨.hbm, 317, rfl⟩
abbrev main_v239 : Ref sig .tc := ⟨.hbm, 318, rfl⟩
abbrev main_v240 : Ref sig .tc := ⟨.hbm, 319, rfl⟩
abbrev main_c_73 : Ref sig .tc := ⟨.hbm, 320, rfl⟩
abbrev main_v241 : Ref sig .tc := ⟨.hbm, 321, rfl⟩
abbrev main_v242 : Ref sig .tc := ⟨.hbm, 322, rfl⟩
abbrev main_c_74 : Ref sig .tc := ⟨.hbm, 323, rfl⟩
abbrev main_v243 : Ref sig .tc := ⟨.hbm, 324, rfl⟩
abbrev main_v244 : Ref sig .tc := ⟨.hbm, 325, rfl⟩
abbrev main_v245 : Ref sig .tc := ⟨.hbm, 326, rfl⟩
abbrev main_c_75 : Ref sig .tc := ⟨.hbm, 327, rfl⟩
abbrev main_v246 : Ref sig .tc := ⟨.hbm, 328, rfl⟩
abbrev main_v247 : Ref sig .tc := ⟨.hbm, 329, rfl⟩
abbrev main_c_76 : Ref sig .tc := ⟨.hbm, 330, rfl⟩
abbrev main_v248 : Ref sig .tc := ⟨.hbm, 331, rfl⟩
abbrev main_v249 : Ref sig .tc := ⟨.hbm, 332, rfl⟩
abbrev main_v250 : Ref sig .tc := ⟨.hbm, 333, rfl⟩
abbrev main_v251 : Ref sig .tc := ⟨.hbm, 334, rfl⟩
abbrev main_v252 : Ref sig .tc := ⟨.hbm, 335, rfl⟩
abbrev main_c_77 : Ref sig .tc := ⟨.hbm, 336, rfl⟩
abbrev main_v253 : Ref sig .tc := ⟨.hbm, 337, rfl⟩
abbrev main_v254 : Ref sig .tc := ⟨.hbm, 338, rfl⟩
abbrev main_c_78 : Ref sig .tc := ⟨.hbm, 339, rfl⟩
abbrev main_v255 : Ref sig .tc := ⟨.hbm, 340, rfl⟩
abbrev main_v256 : Ref sig .tc := ⟨.hbm, 341, rfl⟩
abbrev main_v257 : Ref sig .tc := ⟨.hbm, 342, rfl⟩
abbrev main_v258 : Ref sig .tc := ⟨.hbm, 343, rfl⟩
abbrev main_v259 : Ref sig .tc := ⟨.hbm, 344, rfl⟩
abbrev main_c_79 : Ref sig .tc := ⟨.hbm, 345, rfl⟩
abbrev main_v260 : Ref sig .tc := ⟨.hbm, 346, rfl⟩
abbrev main_v261 : Ref sig .tc := ⟨.hbm, 347, rfl⟩
abbrev main_c_80 : Ref sig .tc := ⟨.hbm, 348, rfl⟩
abbrev main_v262 : Ref sig .tc := ⟨.hbm, 349, rfl⟩
abbrev main_v263 : Ref sig .tc := ⟨.hbm, 350, rfl⟩
abbrev main_v264 : Ref sig .tc := ⟨.hbm, 351, rfl⟩
abbrev main_v265 : Ref sig .tc := ⟨.hbm, 352, rfl⟩
abbrev main_v266 : Ref sig .tc := ⟨.hbm, 353, rfl⟩
abbrev main_c_81 : Ref sig .tc := ⟨.hbm, 354, rfl⟩
abbrev main_v267 : Ref sig .tc := ⟨.hbm, 355, rfl⟩
abbrev main_v268 : Ref sig .tc := ⟨.hbm, 356, rfl⟩
abbrev main_c_82 : Ref sig .tc := ⟨.hbm, 357, rfl⟩
abbrev main_v269 : Ref sig .tc := ⟨.hbm, 358, rfl⟩
abbrev main_v270 : Ref sig .tc := ⟨.hbm, 359, rfl⟩
abbrev main_v271 : Ref sig .tc := ⟨.hbm, 360, rfl⟩
abbrev main_v272 : Ref sig .tc := ⟨.hbm, 361, rfl⟩
abbrev main_c_83 : Ref sig .tc := ⟨.hbm, 362, rfl⟩
abbrev main_v273 : Ref sig .tc := ⟨.hbm, 363, rfl⟩
abbrev main_v274 : Ref sig .tc := ⟨.hbm, 364, rfl⟩
abbrev main_c_84 : Ref sig .tc := ⟨.hbm, 365, rfl⟩
abbrev main_v275 : Ref sig .tc := ⟨.hbm, 366, rfl⟩
abbrev main_v276 : Ref sig .tc := ⟨.hbm, 367, rfl⟩
abbrev main_v277 : Ref sig .tc := ⟨.hbm, 368, rfl⟩
abbrev main_c_85 : Ref sig .tc := ⟨.hbm, 369, rfl⟩
abbrev main_v278 : Ref sig .tc := ⟨.hbm, 370, rfl⟩
abbrev main_v279 : Ref sig .tc := ⟨.hbm, 371, rfl⟩
abbrev main_c_86 : Ref sig .tc := ⟨.hbm, 372, rfl⟩
abbrev main_v280 : Ref sig .tc := ⟨.hbm, 373, rfl⟩
abbrev main_v281 : Ref sig .tc := ⟨.hbm, 374, rfl⟩
abbrev main_v282 : Ref sig .tc := ⟨.hbm, 375, rfl⟩
abbrev main_v283 : Ref sig .tc := ⟨.hbm, 376, rfl⟩
abbrev main_v284 : Ref sig .tc := ⟨.hbm, 377, rfl⟩
abbrev main_c_87 : Ref sig .tc := ⟨.hbm, 378, rfl⟩
abbrev main_v285 : Ref sig .tc := ⟨.hbm, 379, rfl⟩
abbrev main_v286 : Ref sig .tc := ⟨.hbm, 380, rfl⟩
abbrev main_c_88 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_c_89 : Ref sig .tc := ⟨.hbm, 387, rfl⟩
abbrev main_v292 : Ref sig .tc := ⟨.hbm, 388, rfl⟩
abbrev main_v293 : Ref sig .tc := ⟨.hbm, 389, rfl⟩
abbrev main_c_90 : Ref sig .tc := ⟨.hbm, 390, rfl⟩
abbrev main_v294 : Ref sig .tc := ⟨.hbm, 391, rfl⟩
abbrev main_v295 : Ref sig .tc := ⟨.hbm, 392, rfl⟩
abbrev main_v296 : Ref sig .tc := ⟨.hbm, 393, rfl⟩
abbrev main_v297 : Ref sig .tc := ⟨.hbm, 394, rfl⟩
abbrev main_v298 : Ref sig .tc := ⟨.hbm, 395, rfl⟩
abbrev main_c_91 : Ref sig .tc := ⟨.hbm, 396, rfl⟩
abbrev main_v299 : Ref sig .tc := ⟨.hbm, 397, rfl⟩
abbrev main_v300 : Ref sig .tc := ⟨.hbm, 398, rfl⟩
abbrev main_c_92 : Ref sig .tc := ⟨.hbm, 399, rfl⟩
abbrev main_v301 : Ref sig .tc := ⟨.hbm, 400, rfl⟩
abbrev main_v302 : Ref sig .tc := ⟨.hbm, 401, rfl⟩
abbrev main_v303 : Ref sig .tc := ⟨.hbm, 402, rfl⟩
abbrev main_v304 : Ref sig .tc := ⟨.hbm, 403, rfl⟩
abbrev main_c_93 : Ref sig .tc := ⟨.hbm, 404, rfl⟩
abbrev main_v305 : Ref sig .tc := ⟨.hbm, 405, rfl⟩
abbrev main_v306 : Ref sig .tc := ⟨.hbm, 406, rfl⟩
abbrev main_c_94 : Ref sig .tc := ⟨.hbm, 407, rfl⟩
abbrev main_v307 : Ref sig .tc := ⟨.hbm, 408, rfl⟩
abbrev main_v308 : Ref sig .tc := ⟨.hbm, 409, rfl⟩
abbrev main_v309 : Ref sig .tc := ⟨.hbm, 410, rfl⟩
abbrev main_c_95 : Ref sig .tc := ⟨.hbm, 411, rfl⟩
abbrev main_v310 : Ref sig .tc := ⟨.hbm, 412, rfl⟩
abbrev main_v311 : Ref sig .tc := ⟨.hbm, 413, rfl⟩
abbrev main_c_96 : Ref sig .tc := ⟨.hbm, 414, rfl⟩
abbrev main_v312 : Ref sig .tc := ⟨.hbm, 415, rfl⟩
abbrev main_v313 : Ref sig .tc := ⟨.hbm, 416, rfl⟩
abbrev main_v314 : Ref sig .tc := ⟨.hbm, 417, rfl⟩
abbrev main_v315 : Ref sig .tc := ⟨.hbm, 418, rfl⟩
abbrev main_v316 : Ref sig .tc := ⟨.hbm, 419, rfl⟩
abbrev main_c_97 : Ref sig .tc := ⟨.hbm, 420, rfl⟩
abbrev main_v317 : Ref sig .tc := ⟨.hbm, 421, rfl⟩
abbrev main_v318 : Ref sig .tc := ⟨.hbm, 422, rfl⟩
abbrev main_c_98 : Ref sig .tc := ⟨.hbm, 423, rfl⟩
abbrev main_v319 : Ref sig .tc := ⟨.hbm, 424, rfl⟩
abbrev main_v320 : Ref sig .tc := ⟨.hbm, 425, rfl⟩
abbrev main_v321 : Ref sig .tc := ⟨.hbm, 426, rfl⟩
abbrev main_v322 : Ref sig .tc := ⟨.hbm, 427, rfl⟩
abbrev main_v323 : Ref sig .tc := ⟨.hbm, 428, rfl⟩
abbrev main_c_99 : Ref sig .tc := ⟨.hbm, 429, rfl⟩
abbrev main_v324 : Ref sig .tc := ⟨.hbm, 430, rfl⟩
abbrev main_v325 : Ref sig .tc := ⟨.hbm, 431, rfl⟩
abbrev main_c_100 : Ref sig .tc := ⟨.hbm, 432, rfl⟩
abbrev main_v326 : Ref sig .tc := ⟨.hbm, 433, rfl⟩
abbrev main_v327 : Ref sig .tc := ⟨.hbm, 434, rfl⟩
abbrev main_v328 : Ref sig .tc := ⟨.hbm, 435, rfl⟩
abbrev main_v329 : Ref sig .tc := ⟨.hbm, 436, rfl⟩
abbrev main_v330 : Ref sig .tc := ⟨.hbm, 437, rfl⟩
abbrev main_c_101 : Ref sig .tc := ⟨.hbm, 438, rfl⟩
abbrev main_v331 : Ref sig .tc := ⟨.hbm, 439, rfl⟩
abbrev main_v332 : Ref sig .tc := ⟨.hbm, 440, rfl⟩
abbrev main_c_102 : Ref sig .tc := ⟨.hbm, 441, rfl⟩
abbrev main_v333 : Ref sig .tc := ⟨.hbm, 442, rfl⟩
abbrev main_v334 : Ref sig .tc := ⟨.hbm, 443, rfl⟩
abbrev main_v335 : Ref sig .tc := ⟨.hbm, 444, rfl⟩
abbrev main_v336 : Ref sig .tc := ⟨.hbm, 445, rfl⟩
abbrev main_c_103 : Ref sig .tc := ⟨.hbm, 446, rfl⟩
abbrev main_v337 : Ref sig .tc := ⟨.hbm, 447, rfl⟩
abbrev main_v338 : Ref sig .tc := ⟨.hbm, 448, rfl⟩
abbrev main_c_104 : Ref sig .tc := ⟨.hbm, 449, rfl⟩
abbrev main_v339 : Ref sig .tc := ⟨.hbm, 450, rfl⟩
abbrev main_v340 : Ref sig .tc := ⟨.hbm, 451, rfl⟩
abbrev main_v341 : Ref sig .tc := ⟨.hbm, 452, rfl⟩
abbrev main_c_105 : Ref sig .tc := ⟨.hbm, 453, rfl⟩
abbrev main_v342 : Ref sig .tc := ⟨.hbm, 454, rfl⟩
abbrev main_v343 : Ref sig .tc := ⟨.hbm, 455, rfl⟩
abbrev main_c_106 : Ref sig .tc := ⟨.hbm, 456, rfl⟩
abbrev main_v344 : Ref sig .tc := ⟨.hbm, 457, rfl⟩
abbrev main_v345 : Ref sig .tc := ⟨.hbm, 458, rfl⟩
abbrev main_v346 : Ref sig .tc := ⟨.hbm, 459, rfl⟩
abbrev main_v347 : Ref sig .tc := ⟨.hbm, 460, rfl⟩
abbrev main_v348 : Ref sig .tc := ⟨.hbm, 461, rfl⟩
abbrev main_c_107 : Ref sig .tc := ⟨.hbm, 462, rfl⟩
abbrev main_v349 : Ref sig .tc := ⟨.hbm, 463, rfl⟩
abbrev main_v350 : Ref sig .tc := ⟨.hbm, 464, rfl⟩
abbrev main_c_108 : Ref sig .tc := ⟨.hbm, 465, rfl⟩
abbrev main_v351 : Ref sig .tc := ⟨.hbm, 466, rfl⟩
abbrev main_v352 : Ref sig .tc := ⟨.hbm, 467, rfl⟩
abbrev main_v353 : Ref sig .tc := ⟨.hbm, 468, rfl⟩
abbrev main_v354 : Ref sig .tc := ⟨.hbm, 469, rfl⟩
abbrev main_v355 : Ref sig .tc := ⟨.hbm, 470, rfl⟩
abbrev main_c_109 : Ref sig .tc := ⟨.hbm, 471, rfl⟩
abbrev main_v356 : Ref sig .tc := ⟨.hbm, 472, rfl⟩
abbrev main_v357 : Ref sig .tc := ⟨.hbm, 473, rfl⟩
abbrev main_c_110 : Ref sig .tc := ⟨.hbm, 474, rfl⟩
abbrev main_v358 : Ref sig .tc := ⟨.hbm, 475, rfl⟩
abbrev main_v359 : Ref sig .tc := ⟨.hbm, 476, rfl⟩
abbrev main_v360 : Ref sig .tc := ⟨.hbm, 477, rfl⟩
abbrev main_v361 : Ref sig .tc := ⟨.hbm, 478, rfl⟩
abbrev main_v362 : Ref sig .tc := ⟨.hbm, 479, rfl⟩
abbrev main_c_111 : Ref sig .tc := ⟨.hbm, 480, rfl⟩
abbrev main_v363 : Ref sig .tc := ⟨.hbm, 481, rfl⟩
abbrev main_v364 : Ref sig .tc := ⟨.hbm, 482, rfl⟩
abbrev main_c_112 : Ref sig .tc := ⟨.hbm, 483, rfl⟩
abbrev main_v365 : Ref sig .tc := ⟨.hbm, 484, rfl⟩
abbrev main_v366 : Ref sig .tc := ⟨.hbm, 485, rfl⟩
abbrev main_v367 : Ref sig .tc := ⟨.hbm, 486, rfl⟩
abbrev main_v368 : Ref sig .tc := ⟨.hbm, 487, rfl⟩
abbrev main_c_113 : Ref sig .tc := ⟨.hbm, 488, rfl⟩
abbrev main_v369 : Ref sig .tc := ⟨.hbm, 489, rfl⟩
abbrev main_v370 : Ref sig .tc := ⟨.hbm, 490, rfl⟩
abbrev main_c_114 : Ref sig .tc := ⟨.hbm, 491, rfl⟩
abbrev main_v371 : Ref sig .tc := ⟨.hbm, 492, rfl⟩
abbrev main_v372 : Ref sig .tc := ⟨.hbm, 493, rfl⟩
abbrev main_v373 : Ref sig .tc := ⟨.hbm, 494, rfl⟩
abbrev main_c_115 : Ref sig .tc := ⟨.hbm, 495, rfl⟩
abbrev main_v374 : Ref sig .tc := ⟨.hbm, 496, rfl⟩
abbrev main_v375 : Ref sig .tc := ⟨.hbm, 497, rfl⟩
abbrev main_c_116 : Ref sig .tc := ⟨.hbm, 498, rfl⟩
abbrev main_v376 : Ref sig .tc := ⟨.hbm, 499, rfl⟩
abbrev main_v377 : Ref sig .tc := ⟨.hbm, 500, rfl⟩
abbrev main_v378 : Ref sig .tc := ⟨.hbm, 501, rfl⟩
abbrev main_cst_117 : Ref sig .tc := ⟨.hbm, 502, rfl⟩
abbrev main_v379 : Ref sig .tc := ⟨.hbm, 503, rfl⟩
abbrev main_v380 : Ref sig .tc := ⟨.hbm, 504, rfl⟩
abbrev main_cst_118 : Ref sig .tc := ⟨.hbm, 505, rfl⟩
abbrev main_v381 : Ref sig .tc := ⟨.hbm, 506, rfl⟩
abbrev main_v382 : Ref sig .tc := ⟨.hbm, 507, rfl⟩
abbrev main_v383 : Ref sig .tc := ⟨.hbm, 508, rfl⟩
abbrev main_v384 : Ref sig .tc := ⟨.hbm, 509, rfl⟩
abbrev main_v385 : Ref sig .tc := ⟨.hbm, 510, rfl⟩
abbrev main_v386 : Ref sig .tc := ⟨.hbm, 511, rfl⟩
abbrev main_v387 : Ref sig .tc := ⟨.hbm, 512, rfl⟩
abbrev main_v388 : Ref sig .tc := ⟨.hbm, 513, rfl⟩
abbrev main_v389 : Ref sig .tc := ⟨.hbm, 514, rfl⟩
abbrev main_v390 : Ref sig .tc := ⟨.hbm, 515, rfl⟩
abbrev main_cst_119 : Ref sig .tc := ⟨.hbm, 516, rfl⟩
abbrev main_v391 : Ref sig .tc := ⟨.hbm, 517, rfl⟩
abbrev main_v392 : Ref sig .tc := ⟨.hbm, 518, rfl⟩
abbrev main_v393 : Ref sig .tc := ⟨.hbm, 519, rfl⟩
abbrev main_v394 : Ref sig .tc := ⟨.hbm, 520, rfl⟩
abbrev main_c_120 : Ref sig .tc := ⟨.hbm, 521, rfl⟩
abbrev main_call1_v0 : Ref sig .tc := ⟨.hbm, 522, rfl⟩
abbrev main_call1_v1 : Ref sig .tc := ⟨.hbm, 523, rfl⟩
abbrev main_v395 : Ref sig .tc := ⟨.hbm, 524, rfl⟩
abbrev main_c_121 : Ref sig .tc := ⟨.hbm, 525, rfl⟩
abbrev main_v396 : Ref sig .tc := ⟨.hbm, 526, rfl⟩
abbrev main_v397 : Ref sig .tc := ⟨.hbm, 527, rfl⟩
abbrev main_v398 : Ref sig .tc := ⟨.hbm, 528, rfl⟩
abbrev main_v399 : Ref sig .tc := ⟨.hbm, 529, rfl⟩
abbrev main_v400 : Ref sig .tc := ⟨.hbm, 530, rfl⟩
abbrev main_v401 : Ref sig .tc := ⟨.hbm, 531, rfl⟩
abbrev main_v402 : Ref sig .tc := ⟨.hbm, 532, rfl⟩
abbrev main_c_122 : Ref sig .tc := ⟨.hbm, 533, rfl⟩
abbrev main_v403 : Ref sig .tc := ⟨.hbm, 534, rfl⟩

abbrev nD : Nat := 1
abbrev τ : Topo := Topo.v7x

variable {F : FTy → Type} [FloatOps F]
-- ==== Proof.Body.lean ====
module

public import proofs.«01_k».proof.Proof.Gen.KernelIdeal.Skeleton

@[expose] public section

/-! The body of the sampling kernel, written once for any key: the 32 unrolled draws are one
    `section` repeated, and both sampling calls of the printed program are this body at their own key. -/

set_option maxRecDepth 65536
set_option maxHeartbeats 4000000

noncomputable section

namespace Cert.KernelIdeal.Body

open Idealize.ShloMosaic Idealize.SL.Sem Cert.KernelIdeal Cert.KernelIdeal.Gen

variable {F : FTy → Type} [FloatOps F]

/-- One word at every lane of a block. -/
abbrev bc (c : BitVec 32) : IVec S8x2048 32 := broadcast S8x2048 c

/-- The left rotation of a block's words by `r` (`r'` is `32 - r`). -/
abbrev rot (x : IVec S8x2048 32) (r r' : BitVec 32) : IVec S8x2048 32 := ori (shli x (bc r)) (shrui x (bc r'))

/-- The Threefry block cipher of the counter `(0, ·)` under a key, at every lane: the two output words, exclusive-ored.
    `x1` is the counter word with the key's second word already added. -/
def bits (k0 k1 k2 : BitVec 32) (x1 : IVec S8x2048 32) : IVec S8x2048 32 :=
  let a0 := addi x1 (bc k0)
  let b0 := xori (rot x1 13#32 19#32) a0
  let a1 := addi a0 b0
  let b1 := xori (rot b0 15#32 17#32) a1
  let a2 := addi a1 b1
  let b2 := xori (rot b1 26#32 6#32) a2
  let a3 := addi a2 b2
  let b3 := xori (rot b2 6#32 26#32) a3
  let c0 := addi a3 (bc k1)
  let d0 := addi b3 (bc (k2 + 1#32))
  let a4 := addi c0 d0
  let b4 := xori (rot d0 17#32 15#32) a4
  let a5 := addi a4 b4
  let b5 := xori (rot b4 29#32 3#32) a5
  let a6 := addi a5 b5
  let b6 := xori (rot b5 16#32 16#32) a6
  let a7 := addi a6 b6
  let b7 := xori (rot b6 24#32 8#32) a7
  let c1 := addi a7 (bc k2)
  let d1 := addi b7 (bc (k0 + 2#32))
  let a8 := addi c1 d1
  let b8 := xori (rot d1 13#32 19#32) a8
  let a9 := addi a8 b8
  let b9 := xori (rot b8 15#32 17#32) a9
  let a10 := addi a9 b9
  let b10 := xori (rot b9 26#32 6#32) a10
  let a11 := addi a10 b10
  let b11 := xori (rot b10 6#32 26#32) a11
  let c2 := addi a11 (bc k0)
  let d2 := addi b11 (bc (k1 + 3#32))
  let a12 := addi c2 d2
  let b12 := xori (rot d2 17#32 15#32) a12
  let a13 := addi a12 b12
  let b13 := xori (rot b12 29#32 3#32) a13
  let a14 := addi a13 b13
  let b14 := xori (rot b13 16#32 16#32) a14
  let a15 := addi a14 b14
  let b15 := xori (rot b14 24#32 8#32) a15
  let c3 := addi a15 (bc k1)
  let d3 := addi b15 (bc (k2 + 4#32))
  let a16 := addi c3 d3
  let b16 := xori (rot d3 13#32 19#32) a16
  let a17 := addi a16 b16
  let b17 := xori (rot b16 15#32 17#32) a17
  let a18 := addi a17 b17
  let b18 := xori (rot b17 26#32 6#32) a18
  let a19 := addi a18 b18
  let b19 := xori (rot b18 6#32 26#32) a19
  let e0 := addi a19 (bc k2)
  let e1 := addi b19 (bc (k0 + 5#32))
  xori e0 e1

/-- A draw's value at every lane: `log u · (-1/x)`, `u` the fraction the upper 23 bits say. -/
def tval (nrv : FVec F S8x2048 .f32) (w : IVec S8x2048 32) : FVec F S8x2048 .f32 :=
  mulf (log (subf (bitcastToFloat .f32 (ori (shrui w (bc 9#32)) (bc 0x3F800000#32)))
    (broadcast S8x2048 (Scalar.ofBits .f32 0x3F800000#32)))) nrv

/-- The counter word of draw `kk` with the key's second word added. -/
def ctr (k1 : BitVec 32) (kk : ℕ) (base : IVec S8x2048 32) : IVec S8x2048 32 :=
  addi base (bc (BitVec.ofNat 32 (kk * 12800000) + k1))

/-- The new running minima from the old. -/
def newVal (t : FVec F S8x2048 .f32) (cur : Vec F S1x8x2048 .f32) : FVec F S1x8x2048 .f32 :=
  shapeCast S1x8x2048 (select (cmpf .olt t (shapeCast S8x2048 cur shapeCasts_S1x8x2048_S8x2048)) t
    (shapeCast S8x2048 cur shapeCasts_S1x8x2048_S8x2048)) shapeCasts_S8x2048_S1x8x2048

/-- The new columns of the running minima from the old. -/
def newIdx (v3 : IVec S8x2048 32) (t : FVec F S8x2048 .f32) (cur : Vec F S1x8x2048 .f32) (old : Vec F S1x8x2048 .i32) : IVec S1x8x2048 32 :=
  shapeCast S1x8x2048 (select (cmpf .olt t (shapeCast S8x2048 cur shapeCasts_S1x8x2048_S8x2048)) v3
    (shapeCast S8x2048 old shapeCasts_S1x8x2048_S8x2048)) shapeCasts_S8x2048_S1x8x2048

/-- Draw `kk`'s plane lies in the scratch. -/
theorem inbK {kk : ℕ} (h : kk < 32) : ∀ a, (![kk, 0, 0] : Fin 3 → ℕ) a + S1x8x2048.size a ≤ S32x8x2048.size a := by
  intro a; fin_cases a
  · show kk + 1 ≤ 32; omega
  · exact Nat.le_refl _
  · exact Nat.le_refl _

/-- The plane of draw `kk`. -/
abbrev plane (kk : ℕ) (h : kk < 32) : Rect S32x8x2048 := Rect.unit (s := S32x8x2048) ![kk, 0, 0] S1x8x2048.size (inbK h)

/-- Programs of the calls' bodies. -/
abbrev BProg (F : FTy → Type) := Prog (TpuEff nD τ sig (Elt F) Λ₀ .tc)

/-- One draw, then `rest`: read the running minima, compare, write back values and columns. -/
def sec (k0 k1 k2 : BitVec 32) (arg4 : Memref sig .tc .vmem S32x8x2048 .f32) (arg5 : Memref sig .tc .vmem S32x8x2048 .i32)
    (v3 : IVec S8x2048 32) (nrv : FVec F S8x2048 .f32) (base : IVec S8x2048 32) (kk : ℕ) (h : kk < 32) (rest : BProg F PUnit) : BProg F PUnit :=
  .op (.load arg4 (Rect.unit (s := S32x8x2048) ![kk, 0, 0] S1x8x2048.size (inbK h)).toLoadRect (View.loadsAt_vmem h_S1x8x2048)) fun cur =>
  .op (.load arg4 (Rect.unit (s := S32x8x2048) ![kk, 0, 0] S1x8x2048.size (inbK h)).toLoadRect (View.loadsAt_vmem h_S1x8x2048)) fun _ =>
  .op (.store arg4 (Rect.unit (s := S32x8x2048) ![kk, 0, 0] S1x8x2048.size (inbK h)) (newVal (tval nrv (bits k0 k1 k2 (ctr k1 kk base))) cur) Finset.univ (View.stores_vmem_bits_univ h_S1x8x2048 rfl) (.inl rfl)) fun _ =>
  .op (.load arg5 (Rect.unit (s := S32x8x2048) ![kk, 0, 0] S1x8x2048.size (inbK h)).toLoadRect (View.loadsAt_vmem h_S1x8x2048)) fun old =>
  .op (.load arg5 (Rect.unit (s := S32x8x2048) ![kk, 0, 0] S1x8x2048.size (inbK h)).toLoadRect (View.loadsAt_vmem h_S1x8x2048)) fun _ =>
  .op (.store arg5 (Rect.unit (s := S32x8x2048) ![kk, 0, 0] S1x8x2048.size (inbK h)) (newIdx v3 (tval nrv (bits k0 k1 k2 (ctr k1 kk base))) cur old) Finset.univ (View.stores_vmem_bits_univ h_S1x8x2048 rfl) (.inl rfl)) fun _ =>
  rest

/-- `n` draws from draw `kk` on, then `rest`. -/
def secs (k0 k1 k2 : BitVec 32) (arg4 : Memref sig .tc .vmem S32x8x2048 .f32) (arg5 : Memref sig .tc .vmem S32x8x2048 .i32)
    (v3 : IVec S8x2048 32) (nrv : FVec F S8x2048 .f32) (base : IVec S8x2048 32) (rest : BProg F PUnit) : (n kk : ℕ) → kk + n ≤ 32 → BProg F PUnit
  | 0, _, _ => rest
  | n + 1, kk, h => sec k0 k1 k2 arg4 arg5 v3 nrv base kk (by omega) (secs k0 k1 k2 arg4 arg5 v3 nrv base rest n (kk + 1) (by omega))

/-- Before the draws: the scratch cleared at a row block's first step. -/
def initB (i : grid0.Coords) (arg4 : Memref sig .tc .vmem S32x8x2048 .f32) (arg5 : Memref sig .tc .vmem S32x8x2048 .i32) : BProg F PUnit :=
  if h : Scalar.cmpi .ne ((Scalar.extui (Scalar.cmpi .eq (BitVec.ofNat 32 (i 1).val) 0#32) : BitVec 32)) 0#32 = 1#1 then do
    let _ : Vec F S32x8x2048 .f32 ← Prog.lift (.load arg4 (Rect.unit (s := S32x8x2048) ![0, 0, 0] S32x8x2048.size inb_S32x8x2048_S32x8x2048_0_0_0).toLoadRect (View.loadsAt_vmem h_S32x8x2048))
    Prog.lift (.store arg4 (Rect.unit (s := S32x8x2048) ![0, 0, 0] S32x8x2048.size inb_S32x8x2048_S32x8x2048_0_0_0) (k0_pay10 (F := F)) Finset.univ (View.stores_vmem_bits_univ h_S32x8x2048 rfl) (.inl rfl))
    let _ : Vec F S32x8x2048 .i32 ← Prog.lift (.load arg5 (Rect.unit (s := S32x8x2048) ![0, 0, 0] S32x8x2048.size inb_S32x8x2048_S32x8x2048_0_0_0).toLoadRect (View.loadsAt_vmem h_S32x8x2048))
    Prog.lift (.store arg5 (Rect.unit (s := S32x8x2048) ![0, 0, 0] S32x8x2048.size inb_S32x8x2048_S32x8x2048_0_0_0) k0_pay11 Finset.univ (View.stores_vmem_bits_univ h_S32x8x2048 rfl) (.inl rfl))
    pure ⟨⟩
  else pure ⟨⟩

/-- After the draws: at a row block's last step, each draw's winning column, written to the output block. -/
def finB (i : grid0.Coords) (arg3 : Memref sig .tc .vmem S8x32 .i32) (arg4 : Memref sig .tc .vmem S32x8x2048 .f32) (arg5 : Memref sig .tc .vmem S32x8x2048 .i32) : BProg F PUnit :=
  if k0_h2 : k0_cond2 i = 1#1 then do
    let v5979 : IVec S8x32 32 ← Scf.Loop.for k0_t1_loop (k0_t1_ok i k0_h2) k0_pay6 fun k0_t1 arg7 => do
      let v5982 : Vec F S1x8x2048 .f32 ← Prog.lift (.load arg4 (Rect.unit (s := S32x8x2048) (k0_off1 k0_t1) S1x8x2048.size (k0_off1_inb i k0_t1 k0_h2)).toLoadRect (View.loadsAt_vmem h_S1x8x2048))
      let v5989 : Vec F S1x8x2048 .i32 ← Prog.lift (.load arg5 (Rect.unit (s := S32x8x2048) (k0_off1 k0_t1) S1x8x2048.size (k0_off1_inb i k0_t1 k0_h2)).toLoadRect (View.loadsAt_vmem h_S1x8x2048))
      pure (k0_pay7 k0_t1 arg7 v5982 v5989)
    let _ : Vec F S8x32 .i32 ← Prog.lift (.load arg3 (Rect.unit (s := S8x32) ![0, 0] S8x32.size inb_S8x32_S8x32_0_0).toLoadRect (View.loadsAt_vmem h_S8x32))
    Prog.lift (.store arg3 (Rect.unit (s := S8x32) ![0, 0] S8x32.size inb_S8x32_S8x32_0_0) v5979 Finset.univ (View.stores_vmem_bits_univ h_S8x32 rfl) (.inl rfl))
    pure ⟨⟩
  else pure ⟨⟩

/-- The whole body. -/
def body (k0 k1 k2 : BitVec 32) (i : grid0.Coords) (arg2 : Memref sig .tc .vmem S8x2048 .f32) (arg3 : Memref sig .tc .vmem S8x32 .i32)
    (arg4 : Memref sig .tc .vmem S32x8x2048 .f32) (arg5 : Memref sig .tc .vmem S32x8x2048 .i32) : BProg F PUnit := do
  let v6 : Vec F S8x2048 .f32 ← Prog.lift (.load arg2 (Rect.unit (s := S8x2048) ![0, 0] S8x2048.size inb_S8x2048_S8x2048_0_0).toLoadRect (View.loadsAt_vmem h_S8x2048))
  initB i arg4 arg5
  secs k0 k1 k2 arg4 arg5 (k0_pay8 i) (k0_pay9 i v6) (k0_pay12 i) (finB i arg3 arg4 arg5) 32 0 (Nat.le_refl _)

end Cert.KernelIdeal.Body
end
-- ==== Proof.Section.lean ====
module

public import proofs.«01_k».proof.Proof.Body
public import proofs.«01_k».proof.Proof.Gen.KernelIdeal.Launch
public import Idealize.ShloMosaic.Lib.Pipeline.FrameBody
public import Idealize.ShloMosaic.Lib.Pipeline.Value
public import Idealize.ShloMosaic.Lib.Pipeline.ValueKit
public import Idealize.ShloMosaic.Lib.ValueLayout
public import Idealize.ShloMosaic.Lib.WritesUnit
public import Idealize.ShloMosaic.Lib.Tactic

@[expose] public section

/-! One draw of the sampling body, run: what it leaves of the running minima and of their columns. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The lane of a scratch element: its row and column in the block. -/
abbrev lane (y : S32x8x2048.Idx) : S8x2048.Idx := ix2 (y (1 : Fin 3)) (y (2 : Fin 3))

/-- The running minimum at a scratch element after a draw's value `t`. -/
def nv (t : FVec F S8x2048 .f32) (X4 : Vec F S32x8x2048 .f32) (y : S32x8x2048.Idx) : F .f32 :=
  Scalar.select (FloatOps.cmpf .olt (t (lane y)) (X4 y)) (t (lane y)) (X4 y)

/-- The running minimum's column at a scratch element after a draw's value `t` at the columns `v3`. -/
def ni (v3 : IVec S8x2048 32) (t : FVec F S8x2048 .f32) (X4 : Vec F S32x8x2048 .f32) (X5 : Vec F S32x8x2048 .i32) (y : S32x8x2048.Idx) : BitVec 32 :=
  Scalar.select (FloatOps.cmpf .olt (t (lane y)) (X4 y)) (v3 (lane y)) (X5 y)

/-- The scratch after draws `kk .. kk+n-1`: those planes stepped, the others as they were. -/
def setV (T : ℕ → FVec F S8x2048 .f32) (kk n : ℕ) (X4 : Vec F S32x8x2048 .f32) : Vec F S32x8x2048 .f32 :=
  fun y => if kk ≤ (y (0 : Fin 3)).val ∧ (y (0 : Fin 3)).val < kk + n then nv (T (y (0 : Fin 3)).val) X4 y else X4 y

def setI (v3 : IVec S8x2048 32) (T : ℕ → FVec F S8x2048 .f32) (kk n : ℕ) (X4 : Vec F S32x8x2048 .f32) (X5 : Vec F S32x8x2048 .i32) : Vec F S32x8x2048 .i32 :=
  fun y => if kk ≤ (y (0 : Fin 3)).val ∧ (y (0 : Fin 3)).val < kk + n then ni v3 (T (y (0 : Fin 3)).val) X4 X5 y else X5 y

theorem setV_cons (T : ℕ → FVec F S8x2048 .f32) (kk n : ℕ) (X4 : Vec F S32x8x2048 .f32) :
    setV T (kk + 1) n (setV T kk 1 X4) = setV T kk (n + 1) X4 := by
  funext y
  unfold setV nv
  by_cases h0 : (y (0 : Fin 3)).val = kk
  · rw [if_neg (by omega), if_pos (by omega), if_pos (by omega)]
  · by_cases h1 : kk ≤ (y (0 : Fin 3)).val ∧ (y (0 : Fin 3)).val < kk + (n + 1)
    · rw [if_pos (by omega), if_pos h1]; dsimp only; rw [if_neg (by omega)]
    · rw [if_neg (by omega), if_neg (by omega), if_neg h1]

theorem setI_cons (v3 : IVec S8x2048 32) (T : ℕ → FVec F S8x2048 .f32) (kk n : ℕ) (X4 : Vec F S32x8x2048 .f32) (X5 : Vec F S32x8x2048 .i32) :
    setI v3 T (kk + 1) n (setV T kk 1 X4) (setI v3 T kk 1 X4 X5) = setI v3 T kk (n + 1) X4 X5 := by
  funext y
  unfold setI setV ni
  by_cases h0 : (y (0 : Fin 3)).val = kk
  · rw [if_neg (by omega), if_pos (by omega), if_pos (by omega)]
  · by_cases h1 : kk ≤ (y (0 : Fin 3)).val ∧ (y (0 : Fin 3)).val < kk + (n + 1)
    · rw [if_pos (by omega), if_pos h1]; dsimp only; rw [if_neg (by omega), if_neg (by omega)]
    · rw [if_neg (by omega), if_neg (by omega), if_neg h1]

/-- A plane loaded, at a lane. -/
theorem ld_plane {e : EltTy} (X : Vec F S32x8x2048 e) (kk : ℕ) (h : kk < 32) (y : S32x8x2048.Idx) (hy : (y (0 : Fin 3)).val = kk) :
    shapeCast S8x2048 (View.ld X (plane kk h)) shapeCasts_S1x8x2048_S8x2048 (lane y) = X y := by
  refine (ValueIdx.shapeCast_1ab_ab_apply _ _ _ _).trans ?_
  refine View.ld_unit_apply_of X _ _ _ _ y fun a => ?_
  fin_cases a
  · exact hy.trans (Nat.add_zero kk).symm
  · exact (Nat.zero_add _).symm
  · exact (Nat.zero_add _).symm

/-- One store of a plane leaves the plane at the payload and the rest as it was. -/
theorem read_plane {e : EltTy} (M : Memref sig .tc .vmem S32x8x2048 e) (f : M.view.ty.Contents (Elt F)) (kk : ℕ) (h : kk < 32)
    (w : S8x2048.Idx → Elt F e) (y : S32x8x2048.Idx) :
    M.view.read (Elt F) (M.view.writes (Elt F) f [⟨plane kk h, shapeCast S1x8x2048 w shapeCasts_S8x2048_S1x8x2048⟩]) y
      = if kk ≤ (y (0 : Fin 3)).val ∧ (y (0 : Fin 3)).val < kk + 1 then w (lane y) else M.view.read (Elt F) f y := by
  refine (View.read_writes_cons_unit (off' := ![kk, 0, 0]) M.view f _ _ [] y rfl).trans ?_
  have hiff : (∀ a, (![kk, 0, 0] : Fin 3 → ℕ) a ≤ (y a).val ∧ (y a).val < (![kk, 0, 0] : Fin 3 → ℕ) a + S1x8x2048.size a)
      ↔ kk ≤ (y (0 : Fin 3)).val ∧ (y (0 : Fin 3)).val < kk + 1 := by
    constructor
    · intro H; exact H 0
    · intro H a
      have h1 := (y (1 : Fin 3)).isLt
      have h2 := (y (2 : Fin 3)).isLt
      fin_cases a
      · exact H
      · exact ⟨Nat.zero_le _, (Nat.zero_add _).symm ▸ h1⟩
      · exact ⟨Nat.zero_le _, (Nat.zero_add _).symm ▸ h2⟩
  by_cases hc : kk ≤ (y (0 : Fin 3)).val ∧ (y (0 : Fin 3)).val < kk + 1
  · rw [dif_pos (hiff.mpr hc), if_pos hc]
    have hj : ∀ j : S1x8x2048.Idx, (∀ a : Fin 3, a ≠ 0 → (j a).val = (y a).val) →
        shapeCast S1x8x2048 w shapeCasts_S8x2048_S1x8x2048 j = w (lane y) := by
      intro j hj
      obtain ⟨u, a, b, rfl⟩ : ∃ u a b, j = ix3 u a b := ⟨j 0, j 1, j 2, by funext a; fin_cases a <;> rfl⟩
      refine (ValueIdx.shapeCast_ab_1ab_apply w _ u a b).trans (congrArg w ?_)
      have ha := hj 1 (by decide)
      have hb := hj 2 (by decide)
      funext q
      fin_cases q
      · exact Fin.ext ha
      · exact Fin.ext hb
    refine hj _ fun a ha => ?_
    rw [Rect.unitLocal_val]
    fin_cases a
    · exact absurd rfl ha
    · exact Nat.sub_zero _
    · exact Nat.sub_zero _
  · rw [dif_neg (fun H => hc (hiff.mp H)), if_neg hc]; rfl

/-- One draw. -/
theorem wp_sec (c : Dev nD) (E : Set ℕ) (k0 k1 k2 : BitVec 32) (arg4 : Memref sig .tc .vmem S32x8x2048 .f32) (arg5 : Memref sig .tc .vmem S32x8x2048 .i32)
    (v3 : IVec S8x2048 32) (nrv : FVec F S8x2048 .f32) (base : IVec S8x2048 32) (kk : ℕ) (h : kk < 32) (rest : BProg F PUnit)
    (X4 : Vec F S32x8x2048 .f32) (X5 : Vec F S32x8x2048 .i32) (K : PUnit → sProp 𝕄) :
    iprop(owns (c : Thread nD τ) arg4 fullShare X4 ∗ owns (c : Thread nD τ) arg5 fullShare X5
        ∗ (iprop(owns (c : Thread nD τ) arg4 fullShare (setV (fun kk => tval nrv (bits k0 k1 k2 (ctr k1 kk base))) kk 1 X4)
            ∗ owns (c : Thread nD τ) arg5 fullShare (setI v3 (fun kk => tval nrv (bits k0 k1 k2 (ctr k1 kk base))) kk 1 X4 X5))
          -∗ wp frame (wpE (defs₀ (F := F)) Variants.none c none) E rest K))
      ⊢ wp frame (wpE (defs₀ (F := F)) Variants.none c none) E (sec k0 k1 k2 arg4 arg5 v3 nrv base kk h rest) K := by
  unfold owns sec
  iintro ⟨⟨%f4, %hf4, H4⟩, ⟨%f5, %hf5, H5⟩, Hk⟩
  subst hf4 hf5
  sl_exec
  iapply Hk
  isplitl [H4]
  · iexists _; isplitr; swap; (· iexact H4); ipureintro
    funext y
    refine (read_plane arg4 f4 kk h _ y).trans ?_
    unfold setV
    split
    · next hc =>
      have hy : (y (0 : Fin 3)).val = kk := by omega
      have e := ld_plane (arg4.view.read (Elt F) f4) kk h y hy
      unfold nv
      rw [hy]
      exact congrArg (fun z => Scalar.select (FloatOps.cmpf .olt (tval nrv (bits k0 k1 k2 (ctr k1 kk base)) (lane y)) z) (tval nrv (bits k0 k1 k2 (ctr k1 kk base)) (lane y)) z) e
    · rfl
  · iexists _; isplitr; swap; (· iexact H5); ipureintro
    funext y
    refine (read_plane arg5 f5 kk h _ y).trans ?_
    unfold setI
    split
    · next hc =>
      have hy : (y (0 : Fin 3)).val = kk := by omega
      have e := ld_plane (arg4.view.read (Elt F) f4) kk h y hy
      have e' := ld_plane (arg5.view.read (Elt F) f5) kk h y hy
      unfold ni
      rw [hy]
      exact congrArg₂ (fun z z' => Scalar.select (FloatOps.cmpf .olt (tval nrv (bits k0 k1 k2 (ctr k1 kk base)) (lane y)) z) (v3 (lane y)) z') e e'
    · rfl

/-- `n` draws. -/
theorem wp_secs (c : Dev nD) (E : Set ℕ) (k0 k1 k2 : BitVec 32) (arg4 : Memref sig .tc .vmem S32x8x2048 .f32) (arg5 : Memref sig .tc .vmem S32x8x2048 .i32)
    (v3 : IVec S8x2048 32) (nrv : FVec F S8x2048 .f32) (base : IVec S8x2048 32) (rest : BProg F PUnit) (K : PUnit → sProp 𝕄) :
    ∀ (n kk : ℕ) (h : kk + n ≤ 32) (X4 : Vec F S32x8x2048 .f32) (X5 : Vec F S32x8x2048 .i32),
    iprop(owns (c : Thread nD τ) arg4 fullShare X4 ∗ owns (c : Thread nD τ) arg5 fullShare X5
        ∗ (iprop(owns (c : Thread nD τ) arg4 fullShare (setV (fun kk => tval nrv (bits k0 k1 k2 (ctr k1 kk base))) kk n X4)
            ∗ owns (c : Thread nD τ) arg5 fullShare (setI v3 (fun kk => tval nrv (bits k0 k1 k2 (ctr k1 kk base))) kk n X4 X5))
          -∗ wp frame (wpE (defs₀ (F := F)) Variants.none c none) E rest K))
      ⊢ wp frame (wpE (defs₀ (F := F)) Variants.none c none) E (secs k0 k1 k2 arg4 arg5 v3 nrv base rest n kk h) K
  | 0, kk, h, X4, X5 => by
    have hV : setV (fun kk => tval nrv (bits k0 k1 k2 (ctr k1 kk base))) kk 0 X4 = X4 := by
      funext y; unfold setV; exact if_neg (by omega)
    have hI : setI v3 (fun kk => tval nrv (bits k0 k1 k2 (ctr k1 kk base))) kk 0 X4 X5 = X5 := by
      funext y; unfold setI; exact if_neg (by omega)
    rw [hV, hI]
    unfold secs
    iintro ⟨H4, H5, Hk⟩
    iapply Hk
    isplitl [H4]; · iexact H4
    iexact H5
  | n + 1, kk, h, X4, X5 => by
    rw [← setV_cons, ← setI_cons]
    unfold secs
    have h1 : kk < 32 := by omega
    have h2 : kk + 1 + n ≤ 32 := by omega
    iintro ⟨H4, H5, Hk⟩
    iapply (wp_sec c E k0 k1 k2 arg4 arg5 v3 nrv base kk h1 _ X4 X5 K)
    isplitl [H4]; · iexact H4
    isplitl [H5]; · iexact H5
    iintro ⟨H4, H5⟩
    iapply (wp_secs c E k0 k1 k2 arg4 arg5 v3 nrv base rest K n (kk + 1) h2 _ _)
    isplitl [H4]; · iexact H4
    isplitl [H5]; · iexact H5
    iexact Hk

end Cert.KernelIdeal.Body
end
-- ==== Proof.BodyRun.lean ====
module

public import proofs.«01_k».proof.Proof.Section
public import Idealize.ShloMosaic.Lib.VecWindow

@[expose] public section

/-! The sampling body at one grid point, run: from the staging buffers and the scratch at any contents to the scratch one
    step on and, at a row block's last step, the output block. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Whether a grid point is its row block's first step. -/
abbrev isFirst (i : grid0.Coords) : Prop := Scalar.cmpi .ne ((Scalar.extui (Scalar.cmpi .eq (BitVec.ofNat 32 (i 1).val) 0#32) : BitVec 32)) 0#32 = 1#1

/-- The values of the draws at a grid point, from the block's negated reciprocals. -/
def draws (k0 k1 k2 : BitVec 32) (i : grid0.Coords) (nrv : FVec F S8x2048 .f32) : ℕ → FVec F S8x2048 .f32 :=
  fun kk => tval nrv (bits k0 k1 k2 (ctr k1 kk (k0_pay12 i)))

open Classical in
/-- The running minima after a grid point. -/
def nextV (k0 k1 k2 : BitVec 32) (i : grid0.Coords) (nrv : FVec F S8x2048 .f32) (X4 : Vec F S32x8x2048 .f32) : Vec F S32x8x2048 .f32 :=
  setV (draws k0 k1 k2 i nrv) 0 32 (if isFirst i then k0_pay10 (F := F) else X4)

open Classical in
/-- Their columns after a grid point. -/
def nextI (k0 k1 k2 : BitVec 32) (i : grid0.Coords) (nrv : FVec F S8x2048 .f32) (X4 : Vec F S32x8x2048 .f32) (X5 : Vec F S32x8x2048 .i32) : Vec F S32x8x2048 .i32 :=
  setI (k0_pay8 i) (draws k0 k1 k2 i nrv) 0 32 (if isFirst i then k0_pay10 (F := F) else X4) (if isFirst i then k0_pay11 else X5)

/-- The output block after the first `n` draws have been searched. -/
def finSt (V : Vec F S32x8x2048 .f32) (I : Vec F S32x8x2048 .i32) : ℕ → IVec S8x32 32
  | 0 => k0_pay6
  | n + 1 => if h : n < k0_t1_loop.trips then
      k0_pay7 ⟨n, h⟩ (finSt V I n) (View.ld V (plane n (Nat.lt_of_lt_of_le h k0_t1_abs.2.1))) (View.ld I (plane n (Nat.lt_of_lt_of_le h k0_t1_abs.2.1)))
    else finSt V I n

/-- The output block of a finished scratch. -/
abbrev finOut (V : Vec F S32x8x2048 .f32) (I : Vec F S32x8x2048 .i32) : IVec S8x32 32 := finSt V I k0_t1_loop.trips

/-- The epilogue. -/
theorem wp_fin (c : Dev nD) (E : Set ℕ) (i : grid0.Coords) (arg3 : Memref sig .tc .vmem S8x32 .i32)
    (arg4 : Memref sig .tc .vmem S32x8x2048 .f32) (arg5 : Memref sig .tc .vmem S32x8x2048 .i32) (h : k0_cond2 i = 1#1)
    (X3 : Vec F S8x32 .i32) (V : Vec F S32x8x2048 .f32) (I : Vec F S32x8x2048 .i32) (K : PUnit → sProp 𝕄) :
    iprop(owns (c : Thread nD τ) arg3 fullShare X3 ∗ owns (c : Thread nD τ) arg4 fullShare V ∗ owns (c : Thread nD τ) arg5 fullShare I
        ∗ (iprop(owns (c : Thread nD τ) arg3 fullShare (finOut V I) ∗ owns (c : Thread nD τ) arg4 fullShare V
            ∗ owns (c : Thread nD τ) arg5 fullShare I) -∗ K ⟨⟩))
      ⊢ wp frame (wpE (defs₀ (F := F)) Variants.none c none) E (finB i arg3 arg4 arg5) K := by
  unfold owns finB
  rw [dif_pos h]
  iintro ⟨⟨%f3, %hf3, H3⟩, ⟨%f4, %hf4, H4⟩, ⟨%f5, %hf5, H5⟩, Hk⟩
  subst hf4 hf5
  iapply (Scf.wp_for_bind frame (wpE (defs₀ (F := F)) Variants.none c none) E _ _ _ _ _ _
    (fun n acc => iprop((arg4.view.loc (c : Thread nD τ) ↦[arg4.view.set]{fullShare} f4) ∗ (arg5.view.loc (c : Thread nD τ) ↦[arg5.view.set]{fullShare} f5)
      ∗ ⌜acc = finSt (arg4.view.read (Elt F) f4) (arg5.view.read (Elt F) f5) n⌝)) ?_) $$ [H4 H5]
  · intro n acc
    have hk : n.val < 32 := Nat.lt_of_lt_of_le n.isLt k0_t1_abs.2.1
    iintro ⟨H4, H5, %hacc⟩
    sl_exec
    sl_step
    isplitl [H4]; · iexact H4
    isplitl [H5]; · iexact H5
    ipureintro
    subst hacc
    rw [finSt, dif_pos n.isLt]
    have e : ∀ {e : EltTy} (X : Vec F S32x8x2048 e), View.ld X (plane n.val hk) = View.ld X (Rect.unit (s := S32x8x2048) (k0_off1 n) S1x8x2048.size (k0_off1_inb i n h)) := by
      intro e X
      congr 1
      simp only [k0_off1_eq]
    rw [e, e]
    rfl
  · isplitl [H4]; · iexact H4
    isplitl [H5]; · iexact H5
    ipureintro; rfl
  iintro %acc ⟨H4, H5, %hacc⟩
  sl_exec
  sl_step
  iapply Hk
  isplitl [H3]
  · iexists _; isplitr; swap; (· iexact H3); ipureintro
    subst hacc
    exact View.read_writes_full _ _ _ _ _
  isplitl [H4]; · iexists f4; isplitr; (· ipureintro; rfl); iexact H4
  iexists f5; isplitr; (· ipureintro; rfl); iexact H5

/-- What the output block's buffer holds after a grid point. -/
def nextO (i : grid0.Coords) (X3 : Vec F S8x32 .i32) (V : Vec F S32x8x2048 .f32) (I : Vec F S32x8x2048 .i32) : Vec F S8x32 .i32 :=
  if k0_cond2 i = 1#1 then finOut V I else X3

/-- The draws and the epilogue. -/
theorem wp_rest (c : Dev nD) (E : Set ℕ) (k0 k1 k2 : BitVec 32) (i : grid0.Coords) (nrv : FVec F S8x2048 .f32) (arg3 : Memref sig .tc .vmem S8x32 .i32)
    (arg4 : Memref sig .tc .vmem S32x8x2048 .f32) (arg5 : Memref sig .tc .vmem S32x8x2048 .i32)
    (X3 : Vec F S8x32 .i32) (X4 : Vec F S32x8x2048 .f32) (X5 : Vec F S32x8x2048 .i32) (K : PUnit → sProp 𝕄) :
    iprop(owns (c : Thread nD τ) arg3 fullShare X3 ∗ owns (c : Thread nD τ) arg4 fullShare X4 ∗ owns (c : Thread nD τ) arg5 fullShare X5
        ∗ (iprop(owns (c : Thread nD τ) arg3 fullShare (nextO i X3 (setV (draws k0 k1 k2 i nrv) 0 32 X4) (setI (k0_pay8 i) (draws k0 k1 k2 i nrv) 0 32 X4 X5))
            ∗ owns (c : Thread nD τ) arg4 fullShare (setV (draws k0 k1 k2 i nrv) 0 32 X4)
            ∗ owns (c : Thread nD τ) arg5 fullShare (setI (k0_pay8 i) (draws k0 k1 k2 i nrv) 0 32 X4 X5)) -∗ K ⟨⟩))
      ⊢ wp frame (wpE (defs₀ (F := F)) Variants.none c none) E
          (secs k0 k1 k2 arg4 arg5 (k0_pay8 i) nrv (k0_pay12 i) (finB i arg3 arg4 arg5) 32 0 (Nat.le_refl _)) K := by
  iintro ⟨H3, H4, H5, Hk⟩
  iapply (wp_secs c E k0 k1 k2 arg4 arg5 (k0_pay8 i) nrv (k0_pay12 i) (finB i arg3 arg4 arg5) K 32 0 (Nat.le_refl _) X4 X5)
  isplitl [H4]; · iexact H4
  isplitl [H5]; · iexact H5
  iintro ⟨H4, H5⟩
  unfold nextO
  by_cases h : k0_cond2 i = 1#1
  · rw [if_pos h]
    iapply (wp_fin c E i arg3 arg4 arg5 h X3 _ _ K)
    isplitl [H3]; · iexact H3
    isplitl [H4]; · iexact H4
    isplitl [H5]; · iexact H5
    iexact Hk
  · rw [if_neg h]
    unfold finB
    rw [dif_neg h]
    sl_step
    iapply Hk
    isplitl [H3]; · iexact H3
    isplitl [H4]; · iexact H4
    iexact H5

/-- The load of the block and the clearing of the scratch, before anything. -/
theorem wp_init (c : Dev nD) (E : Set ℕ) (i : grid0.Coords) (arg2 : Memref sig .tc .vmem S8x2048 .f32)
    (arg4 : Memref sig .tc .vmem S32x8x2048 .f32) (arg5 : Memref sig .tc .vmem S32x8x2048 .i32)
    (X2 : Vec F S8x2048 .f32) (X4 : Vec F S32x8x2048 .f32) (X5 : Vec F S32x8x2048 .i32) (rest : Vec F S8x2048 .f32 → BProg F PUnit) (K : PUnit → sProp 𝕄) :
    iprop(owns (c : Thread nD τ) arg2 fullShare X2 ∗ owns (c : Thread nD τ) arg4 fullShare X4 ∗ owns (c : Thread nD τ) arg5 fullShare X5
        ∗ (iprop(owns (c : Thread nD τ) arg2 fullShare X2
            ∗ owns (c : Thread nD τ) arg4 fullShare (open Classical in if isFirst i then k0_pay10 (F := F) else X4)
            ∗ owns (c : Thread nD τ) arg5 fullShare (open Classical in if isFirst i then k0_pay11 else X5))
          -∗ wp frame (wpE (defs₀ (F := F)) Variants.none c none) E (rest X2) K))
      ⊢ wp frame (wpE (defs₀ (F := F)) Variants.none c none) E (do
          let v6 : Vec F S8x2048 .f32 ← Prog.lift (.load arg2 (Rect.unit (s := S8x2048) ![0, 0] S8x2048.size inb_S8x2048_S8x2048_0_0).toLoadRect (View.loadsAt_vmem h_S8x2048))
          initB i arg4 arg5
          rest v6) K := by
  unfold initB
  by_cases h : isFirst i
  · rw [dif_pos h, if_pos h, if_pos h]
    simp only [bind_assoc, pure_bind]
    unfold owns
    iintro ⟨⟨%f2, %hf2, H2⟩, ⟨%f4, %hf4, H4⟩, ⟨%f5, %hf5, H5⟩, Hk⟩
    subst hf2 hf4 hf5
    sl_exec
    rw [View.readAt_full]
    iapply Hk
    isplitl [H2]; · iexists f2; isplitr; (· ipureintro; rfl); iexact H2
    isplitl [H4]
    · iexists _; isplitr; swap; (· iexact H4); ipureintro
      exact View.read_writes_full _ _ _ _ _
    iexists _; isplitr; swap; (· iexact H5); ipureintro
    exact View.read_writes_full _ _ _ _ _
  · rw [dif_neg h, if_neg h, if_neg h]
    simp only [bind_assoc, pure_bind]
    unfold owns
    iintro ⟨⟨%f2, %hf2, H2⟩, H4, H5, Hk⟩
    subst hf2
    sl_exec
    rw [View.readAt_full]
    iapply Hk
    isplitl [H2]; · iexists f2; isplitr; (· ipureintro; rfl); iexact H2
    isplitl [H4]; · iexact H4
    iexact H5

/-- The body. -/
theorem wp_body (c : Dev nD) (E : Set ℕ) (k0 k1 k2 : BitVec 32) (i : grid0.Coords) (arg2 : Memref sig .tc .vmem S8x2048 .f32) (arg3 : Memref sig .tc .vmem S8x32 .i32)
    (arg4 : Memref sig .tc .vmem S32x8x2048 .f32) (arg5 : Memref sig .tc .vmem S32x8x2048 .i32)
    (X2 : Vec F S8x2048 .f32) (X3 : Vec F S8x32 .i32) (X4 : Vec F S32x8x2048 .f32) (X5 : Vec F S32x8x2048 .i32) (K : PUnit → sProp 𝕄) :
    iprop(owns (c : Thread nD τ) arg2 fullShare X2 ∗ owns (c : Thread nD τ) arg3 fullShare X3 ∗ owns (c : Thread nD τ) arg4 fullShare X4 ∗ owns (c : Thread nD τ) arg5 fullShare X5
        ∗ (iprop(owns (c : Thread nD τ) arg2 fullShare X2
            ∗ owns (c : Thread nD τ) arg3 fullShare (nextO i X3 (nextV k0 k1 k2 i (k0_pay9 i X2) X4) (nextI k0 k1 k2 i (k0_pay9 i X2) X4 X5))
            ∗ owns (c : Thread nD τ) arg4 fullShare (nextV k0 k1 k2 i (k0_pay9 i X2) X4)
            ∗ owns (c : Thread nD τ) arg5 fullShare (nextI k0 k1 k2 i (k0_pay9 i X2) X4 X5)) -∗ K ⟨⟩))
      ⊢ wp frame (wpE (defs₀ (F := F)) Variants.none c none) E (body k0 k1 k2 i arg2 arg3 arg4 arg5) K := by
  iintro ⟨H2, H3, H4, H5, Hk⟩
  iapply (wp_init c E i arg2 arg4 arg5 X2 X4 X5 _ K)
  isplitl [H2]; · iexact H2
  isplitl [H4]; · iexact H4
  isplitl [H5]; · iexact H5
  iintro ⟨H2, H4, H5⟩
  iapply (wp_rest c E k0 k1 k2 i (k0_pay9 i X2) arg3 arg4 arg5 X3 _ _ K)
  isplitl [H3]; · iexact H3
  isplitl [H4]; · iexact H4
  isplitl [H5]; · iexact H5
  iintro ⟨H3, H4, H5⟩
  iapply Hk
  isplitl [H2]; · iexact H2
  isplitl [H3]; · iexact H3
  isplitl [H4]; · iexact H4
  iexact H5

end Cert.KernelIdeal.Body
end
-- ==== Proof.Hist.lean ====
module

public import proofs.«01_k».proof.Proof.BodyRun

@[expose] public section

/-! The scratch of a sampling call over its grid: after `n` points, the running minima and their columns, as a function of
    the blocks the points read. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (k0 k1 k2 : BitVec 32) (nr : Fin grid0.N → FVec F S8x2048 .f32)

/-- The scratch after `n` points, from the negated reciprocals `nr t` of each point's block. -/
def scr : ℕ → Vec F S32x8x2048 .f32 × Vec F S32x8x2048 .i32
  | 0 => (k0_pay10 (F := F), k0_pay11)
  | n + 1 => if h : n < grid0.N then
      (nextV k0 k1 k2 (grid0.coords ⟨n, h⟩) (nr ⟨n, h⟩) (scr n).1, nextI k0 k1 k2 (grid0.coords ⟨n, h⟩) (nr ⟨n, h⟩) (scr n).1 (scr n).2)
    else scr n

theorem scr_succ (t : Fin grid0.N) : scr k0 k1 k2 nr (t.val + 1)
    = (nextV k0 k1 k2 (grid0.coords t) (nr t) (scr k0 k1 k2 nr t.val).1, nextI k0 k1 k2 (grid0.coords t) (nr t) (scr k0 k1 k2 nr t.val).1 (scr k0 k1 k2 nr t.val).2) := by
  rw [scr, dif_pos t.isLt]

/-- The grid's first point is a first step. -/
theorem isFirst_zero (t : Fin grid0.N) (h : t.val = 0) : isFirst (grid0.coords t) := by
  obtain rfl : t = ⟨0, by decide⟩ := Fin.ext h
  decide

theorem nextV_first (i : grid0.Coords) (h : isFirst i) (nrv : FVec F S8x2048 .f32) (X X' : Vec F S32x8x2048 .f32) :
    nextV k0 k1 k2 i nrv X = nextV k0 k1 k2 i nrv X' := by
  unfold nextV; rw [if_pos h, if_pos h]

theorem nextI_first (i : grid0.Coords) (h : isFirst i) (nrv : FVec F S8x2048 .f32) (X X' : Vec F S32x8x2048 .f32) (Y Y' : Vec F S32x8x2048 .i32) :
    nextI k0 k1 k2 i nrv X Y = nextI k0 k1 k2 i nrv X' Y' := by
  unfold nextI; rw [if_pos h, if_pos h, if_pos h, if_pos h]

/-- The scratch held before point `n`: at anything before the first, else at `scr n`. -/
def scrHeld (c : Dev nD) (M4 : Memref sig .tc .vmem S32x8x2048 .f32) (M5 : Memref sig .tc .vmem S32x8x2048 .i32) (n : ℕ) : sProp 𝕄 :=
  iprop(∃ (X4 : Vec F S32x8x2048 .f32) (X5 : Vec F S32x8x2048 .i32),
    ⌜n ≠ 0 → X4 = (scr k0 k1 k2 nr n).1 ∧ X5 = (scr k0 k1 k2 nr n).2⌝ ∗ owns (c : Thread nD τ) M4 fullShare X4 ∗ owns (c : Thread nD τ) M5 fullShare X5)

/-- One point. -/
theorem wp_point (c : Dev nD) (E : Set ℕ) (t : Fin grid0.N) (arg2 : Memref sig .tc .vmem S8x2048 .f32) (arg3 : Memref sig .tc .vmem S8x32 .i32)
    (arg4 : Memref sig .tc .vmem S32x8x2048 .f32) (arg5 : Memref sig .tc .vmem S32x8x2048 .i32)
    (X2 : Vec F S8x2048 .f32) (X3 : Vec F S8x32 .i32) (hnr : k0_pay9 (grid0.coords t) X2 = nr t) (K : PUnit → sProp 𝕄) :
    iprop(scrHeld k0 k1 k2 nr c arg4 arg5 t.val ∗ owns (c : Thread nD τ) arg2 fullShare X2 ∗ owns (c : Thread nD τ) arg3 fullShare X3
        ∗ (iprop(scrHeld k0 k1 k2 nr c arg4 arg5 (t.val + 1) ∗ owns (c : Thread nD τ) arg2 fullShare X2
            ∗ owns (c : Thread nD τ) arg3 fullShare (nextO (grid0.coords t) X3 (scr k0 k1 k2 nr (t.val + 1)).1 (scr k0 k1 k2 nr (t.val + 1)).2)) -∗ K ⟨⟩))
      ⊢ wp frame (wpE (defs₀ (F := F)) Variants.none c none) E (body k0 k1 k2 (grid0.coords t) arg2 arg3 arg4 arg5) K := by
  unfold scrHeld
  iintro ⟨⟨%X4, %X5, %hX, H4, H5⟩, H2, H3, Hk⟩
  have hV : nextV k0 k1 k2 (grid0.coords t) (nr t) X4 = (scr k0 k1 k2 nr (t.val + 1)).1 := by
    rw [scr_succ]
    by_cases h : t.val = 0
    · exact nextV_first _ _ _ _ (isFirst_zero t h) _ _ _
    · rw [(hX h).1]
  have hI : nextI k0 k1 k2 (grid0.coords t) (nr t) X4 X5 = (scr k0 k1 k2 nr (t.val + 1)).2 := by
    rw [scr_succ]
    by_cases h : t.val = 0
    · exact nextI_first _ _ _ _ (isFirst_zero t h) _ _ _ _ _
    · rw [(hX h).1, (hX h).2]
  have hb := wp_body c E k0 k1 k2 (grid0.coords t) arg2 arg3 arg4 arg5 X2 X3 X4 X5 K
  rw [hnr, hV, hI] at hb
  iapply hb
  isplitl [H2]; · iexact H2
  isplitl [H3]; · iexact H3
  isplitl [H4]; · iexact H4
  isplitl [H5]; · iexact H5
  iintro ⟨H2, H3, H4, H5⟩
  iapply Hk
  isplitl [H4 H5]
  · iexists _, _
    isplitr; · ipureintro; exact fun _ => ⟨rfl, rfl⟩
    isplitl [H4]; · iexact H4
    iexact H5
  isplitl [H2]; · iexact H2
  iexact H3

end Cert.KernelIdeal.Body
end
-- ==== Proof.Block.lean ====
module

public import proofs.«01_k».proof.Proof.Hist

@[expose] public section

/-! What the part of a staged block inside the array determines of the negated reciprocals. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- A lane whose column is inside the array lies in the part of the block a fetch moves. -/
theorem lt_extent (i : grid0.Coords) (j : S8x2048.Idx) (h : (i 1).val * 2048 + (j 1).val < 100000) (a : Fin 2) :
    (j a).val < (Pipeline.Clip.of (![(BitVec.ofNat 32 (i 0).val).toNat, (BitVec.ofNat 32 (i 1).val).toNat] a) (S8x2048.size a) (S128x100000.size a)).extent (S8x2048.size a) := by
  have h1 : (i 1).val < 49 := (i 1).isLt
  have h0 : (i 0).val < 16 := (i 0).isLt
  have e1 : (BitVec.ofNat 32 (i 1).val).toNat = (i 1).val := by rw [BitVec.toNat_ofNat]; omega
  have e0 : (BitVec.ofNat 32 (i 0).val).toNat = (i 0).val := by rw [BitVec.toNat_ofNat]; omega
  match a with
  | ⟨0, _⟩ =>
    show (j 0).val < (Pipeline.Clip.of (BitVec.ofNat 32 (i 0).val).toNat 8 128).extent 8
    rw [e0]; unfold Pipeline.Clip.of
    rw [if_pos (by omega)]; exact (j 0).isLt
  | ⟨1, _⟩ =>
    show (j 1).val < (Pipeline.Clip.of (BitVec.ofNat 32 (i 1).val).toNat 2048 100000).extent 2048
    rw [e1]; unfold Pipeline.Clip.of
    split
    · exact (j 1).isLt
    · show (j 1).val < 100000 - (i 1).val * 2048; omega

/-- The columns of a block: a lane's column as a word. -/
theorem pay8_apply (i : grid0.Coords) (j : S8x2048.Idx) : k0_pay8 i j = BitVec.ofNat 32 ((i 1).val * 2048 + (j 1).val) := by
  unfold k0_pay8
  dsimp only [addi, broadcast, iota, IntOp.addi, List.foldl, Scalar.muli, IntOp.muli]
  rw [Nat.zero_mul, Nat.zero_add]
  have h1 : (i 1).val < 49 := (i 1).isLt
  have h2 : (j 1).val < 2048 := (j 1).isLt
  apply BitVec.eq_of_toNat_eq
  simp only [BitVec.toNat_add, BitVec.toNat_mul, BitVec.toNat_ofNat]
  omega

/-- The column test, decided. -/
theorem col_slt (i : grid0.Coords) (j : S8x2048.Idx) :
    cmpi .slt (k0_pay8 i) (broadcast S8x2048 100000#32 : IVec S8x2048 32) j = BitVec.ofBool (decide ((i 1).val * 2048 + (j 1).val < 100000)) := by
  have h1 : (i 1).val < 49 := (i 1).isLt
  have h2 : (j 1).val < 2048 := (j 1).isLt
  show BitVec.ofBool ((k0_pay8 i j).slt 100000#32) = _
  rw [pay8_apply, BitVec.slt_eq_decide]
  rw [BitVec.toInt_eq_toNat_of_lt (by rw [BitVec.toNat_ofNat]; omega), BitVec.toNat_ofNat]
  rw [BitVec.toInt_eq_toNat_of_lt (by decide), Nat.mod_eq_of_lt (by omega)]
  exact congrArg BitVec.ofBool (decide_eq_decide.mpr (Int.ofNat_lt (n := (i 1).val * 2048 + (j 1).val) (m := 100000)))

/-- The negated reciprocals read the block at columns inside the array only. -/
theorem pay9_congr (i : grid0.Coords) (X X' : Vec F S8x2048 .f32)
    (h : ∀ j : S8x2048.Idx, (i 1).val * 2048 + (j 1).val < 100000 → X j = X' j) : k0_pay9 i X = k0_pay9 i X' := by
  funext j
  by_cases hj : (i 1).val * 2048 + (j 1).val < 100000
  · show Scalar.select _ (FloatOps.divf _ (X j)) _ = Scalar.select _ (FloatOps.divf _ (X' j)) _
    rw [h j hj]
  · have hc := col_slt i j
    rw [decide_eq_false hj] at hc
    show Scalar.select (cmpi .slt (k0_pay8 i) (broadcast S8x2048 100000#32 : IVec S8x2048 32) j) _ _ = Scalar.select (cmpi .slt (k0_pay8 i) (broadcast S8x2048 100000#32 : IVec S8x2048 32) j) _ _
    rw [hc]; rfl

/-- What a staging buffer may be written back as: the last step's finished row block. -/
theorem cond2_iff : ∀ t : Fin grid0.N, k0_cond2 (grid0.coords t) = 1#1 ↔ t.val % 49 = 48 := by decide +kernel

end Cert.KernelIdeal.Body
end
-- ==== Proof.Bodies.lean ====
module

public import proofs.«01_k».proof.Proof.Body

@[expose] public section
set_option maxRecDepth 1000000
set_option maxHeartbeats 4000000
/-! Both printed sampling bodies are the generic body at their key. -/

noncomputable section
namespace Cert.KernelIdeal.Body

open Idealize.ShloMosaic Idealize.SL.Sem Cert.KernelIdeal Cert.KernelIdeal.Gen

variable {F : FTy → Type} [FloatOps F]

/-- The first part of the printed body, up to the clearing of the scratch. -/
theorem part1_0 (i arg2 harg2 arg3 harg3 arg4 harg4 arg5 harg5) : k0_part1 (F := F) i arg2 harg2 arg3 harg3 arg4 harg4 arg5 harg5 =
   (Prog.lift (.load arg2 (Rect.unit (s := S8x2048) ![0, 0] S8x2048.size inb_S8x2048_S8x2048_0_0).toLoadRect (View.loadsAt_vmem h_S8x2048)) >>= fun v6 : Vec F S8x2048 .f32 =>
    initB i arg4 arg5 >>= fun _ => pure ⟨BitVec.ofNat 32 (i 1).val, k0_pay8 i, k0_pay9 i v6, k0_pay12 i, k0_pay17 i, k0_pay18 i, k0_pay19⟩) := by
  by_cases h : Scalar.cmpi .ne (Scalar.extui (Scalar.cmpi .eq (BitVec.ofNat 32 (i 1).val) 0#32) : BitVec 32) 0#32 = 1#1
  · have e : initB (F := F) i arg4 arg5 = _ := dif_pos h
    rw [e]
    refine congrArg _ (funext fun v6 => ?_)
    exact dif_pos h
  · have e : initB (F := F) i arg4 arg5 = _ := dif_neg h
    rw [e]
    refine congrArg _ (funext fun v6 => ?_)
    exact dif_neg h

/-- The printed first sampling body is the generic body at the first key. -/
theorem body0 (i) (arg2) (harg2) (arg3) (harg3) (arg4) (harg4) (arg5) (harg5) : cc0__sample_body (F := F) i arg2 harg2 arg3 harg3 arg4 harg4 arg5 harg5 = body 507451445#32 1853169794#32 (507451445#32 ^^^ 1853169794#32 ^^^ 0x1BD11BDA#32) i arg2 arg3 arg4 arg5 := by
  unfold cc0__sample_body k0_part137 body
  rw [part1_0]
  simp only [bind_assoc, pure_bind]
  refine congrArg _ (funext fun v6 => congrArg _ (funext fun _ => ?_))
  rfl
/-- The first part of the printed body, up to the clearing of the scratch. -/
theorem part1_1 (i arg2 harg2 arg3 harg3 arg4 harg4 arg5 harg5) : k1_part1 (F := F) i arg2 harg2 arg3 harg3 arg4 harg4 arg5 harg5 =
   (Prog.lift (.load arg2 (Rect.unit (s := S8x2048) ![0, 0] S8x2048.size inb_S8x2048_S8x2048_0_0).toLoadRect (View.loadsAt_vmem h_S8x2048)) >>= fun v6 : Vec F S8x2048 .f32 =>
    initB i arg4 arg5 >>= fun _ => pure ⟨BitVec.ofNat 32 (i 1).val, k1_pay8 i, k1_pay9 i v6, k1_pay12 i, k1_pay17 i, k1_pay18 i, k1_pay19⟩) := by
  by_cases h : Scalar.cmpi .ne (Scalar.extui (Scalar.cmpi .eq (BitVec.ofNat 32 (i 1).val) 0#32) : BitVec 32) 0#32 = 1#1
  · have e : initB (F := F) i arg4 arg5 = _ := dif_pos h
    rw [e]
    refine congrArg _ (funext fun v6 => ?_)
    exact dif_pos h
  · have e : initB (F := F) i arg4 arg5 = _ := dif_neg h
    rw [e]
    refine congrArg _ (funext fun v6 => ?_)
    exact dif_neg h

/-- The printed second sampling body is the generic body at the second key. -/
theorem body1 (i) (arg2) (harg2) (arg3) (harg3) (arg4) (harg4) (arg5) (harg5) : cc1__sample_body (F := F) i arg2 harg2 arg3 harg3 arg4 harg4 arg5 harg5 = body 1948878966#32 4237131848#32 (1948878966#32 ^^^ 4237131848#32 ^^^ 0x1BD11BDA#32) i arg2 arg3 arg4 arg5 := by
  unfold cc1__sample_body k1_part137 body
  rw [part1_1]
  simp only [bind_assoc, pure_bind]
  refine congrArg _ (funext fun v6 => congrArg _ (funext fun _ => ?_))
  rfl
end Cert.KernelIdeal.Body
end
-- ==== Proof.Region0.lean ====
module

public import proofs.«01_k».proof.Proof.Block
public import proofs.«01_k».proof.Proof.Bodies
public import proofs.«01_k».proof.Proof.Gen.KernelIdeal.Launch
public import proofs.«01_k».proof.Proof.Gen.KernelIdeal.Points
public import Idealize.ShloMosaic.Lib.Pipeline.FrameBody

@[expose] public section

/-! The first sampling call: what its staged block determines, its proof data, and its body at every point. -/

set_option maxRecDepth 16384

noncomputable section

namespace Cert.KernelIdeal.R0

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- A lane whose column is inside the array is moved by the fetch. -/
theorem moved_of_lt (i : grid0.Coords) (j : S8x2048.Idx) (h : (i 1).val * 2048 + (j 1).val < 100000) : win0_0.moved i j = true :=
  (win0_0.moved_iff i j).mpr (lt_extent i j h)

/-- The negated reciprocals do not depend on what lies past the end of the array. -/
theorem pay9_fill (i : grid0.Coords) (d d' : S8x2048.Idx → F .f32) (g : (win0_0.xblock i).Idx → F .f32) :
    k0_pay9 i (win0_0.fill i d g : Vec F S8x2048 .f32) = k0_pay9 i (win0_0.fill i d' g : Vec F S8x2048 .f32) :=
  pay9_congr i _ _ fun j h => by
    have hm := moved_of_lt i j h
    unfold Window.fill; rw [dif_pos hm, dif_pos hm]

variable (V : Dev nD → Valuation τ sig (Elt F))

/-- The part of the array point `t` reads, and the block it is staged in, filled out. -/
def blk (c : Dev nD) (t : Fin grid0.N) : (win0_0.xblock (grid0.coords t)).Idx → Elt F .f32 :=
  ((cfg0.win 0).blk t).view.read (Elt F) (V c (Proc.devRef .tc (Pipeline.arrRef spec0 0)))
def stg (c : Dev nD) (t : Fin grid0.N) : Vec F S8x2048 .f32 :=
  win0_0.fill (grid0.coords t) (fun _ => (Scalar.ofBits .f32 0#32 : F .f32)) (blk V c t)

/-- The negated reciprocals of point `t`'s block. -/
def nr (c : Dev nD) (t : Fin grid0.N) : FVec F S8x2048 .f32 := k0_pay9 (grid0.coords t) (stg V c t)

abbrev key0 : BitVec 32 := 507451445#32
abbrev key1 : BitVec 32 := 1853169794#32
abbrev key2 : BitVec 32 := 507451445#32 ^^^ 1853169794#32 ^^^ 0x1BD11BDA#32

/-- The scratch after `n` points. -/
def hist (c : Dev nD) (n : ℕ) : Vec F S32x8x2048 .f32 × Vec F S32x8x2048 .i32 := scr key0 key1 key2 (nr V c) n

/-- The proof data: the arrays at `V`; after the body the block staged, and the row block's draws; the scratch's history. -/
def dat (c : Dev nD) : Dat τ (Elt F) Unit ℕ (UR sig nD τ) ℕ cfg0 c where
  A w := V c (Proc.devRef .tc (Pipeline.arrRef spec0 w))
  after w t := match w with
    | ⟨0, _⟩ => stg V c t
    | ⟨1, _⟩ => finOut (hist V c (t.val + 1)).1 (hist V c (t.val + 1)).2
  Φ n := iprop(scrHeld key0 key1 key2 (nr V c) c (Memref.whole cc0_scratch0) (Memref.whole cc0_scratch1) n.val
    ∗ Pipeline.scopedRestBut (Ix := Unit) (Name := ℕ) (U := UR sig nD τ) (Lvl := ℕ) (Val := Elt F) spec0 c [cc0_scratch0, cc0_scratch1])
  q _ := fullShare
  owed _ := 0

theorem before_0 (c : Dev nD) (t : Fin cfg0.N) (d) : (dat V c).before 0 t d = win0_0.fill (grid0.coords t) d (blk V c t) := by
  unfold Dat.before; rw [if_pos (fetch0_0 t)]; rfl

theorem defs₀_row (t : Fin cfg0.N) : defs₀ (F := F) .tc cfg0.body (cfg0.bodyArgs t (cfg0.slots t)) = bodyAt0 t := by
  unfold defs₀; rw [Defs.onTc_tc]

theorem after_0 (c : Dev nD) (t : Fin cfg0.N) : (dat V c).after 0 t = stg V c t := by dsimp only [dat]
theorem after_1 (c : Dev nD) (t : Fin cfg0.N) : (dat V c).after 1 t = finOut (hist V c (t.val + 1)).1 (hist V c (t.val + 1)).2 := by dsimp only [dat]

theorem cut_stg (c : Dev nD) (t : Fin cfg0.N) : (cfg0.win 0).cut (cfg0.grid.coords t) (stg V c t) = blk V c t := by
  unfold stg; exact win0_0.cut_fill _ _ _

/-- The body's triple at a point: the block in place, the draws written when the row block is done and the buffer left as it
    was otherwise, the history one point on. -/
theorem point (c : Dev nD) (t : Fin cfg0.N) (X3 : Vec F S8x32 .i32) (d : S8x2048.Idx → F .f32) (K : PUnit → sProp 𝕄) :
    iprop((dat V c).Φ t.castSucc ∗ owns (c : Thread nD τ) (st0_0 t) fullShare (win0_0.fill (grid0.coords t) d (blk V c t))
        ∗ owns (c : Thread nD τ) (st0_1 t) fullShare X3
        ∗ (iprop((dat V c).Φ t.succ ∗ owns (c : Thread nD τ) (st0_0 t) fullShare (win0_0.fill (grid0.coords t) d (blk V c t))
            ∗ owns (c : Thread nD τ) (st0_1 t) fullShare (nextO (grid0.coords t) X3 (hist V c (t.val + 1)).1 (hist V c (t.val + 1)).2)) -∗ K ⟨⟩))
      ⊢ wp frame (wpE (defs₀ (F := F)) Variants.none c none) Set.univ (bodyAt0 t) K := by
  have hnr : k0_pay9 (grid0.coords t) (win0_0.fill (grid0.coords t) d (blk V c t) : Vec F S8x2048 .f32) = nr V c t := pay9_fill _ _ _ _
  unfold bodyAt0
  rw [body0]
  dsimp only [dat, hist]
  iintro ⟨⟨HS, HR⟩, H0, H1, Hk⟩
  have hp := wp_point key0 key1 key2 (nr V c) c Set.univ t (st0_0 t) (st0_1 t) (Memref.whole cc0_scratch0) (Memref.whole cc0_scratch1)
    (win0_0.fill (grid0.coords t) d (blk V c t)) X3 hnr K
  iapply hp
  isplitl [HS]; · iexact HS
  isplitl [H0]; · iexact H0
  isplitl [H1]; · iexact H1
  iintro ⟨HS, H0, H1⟩
  iapply Hk
  isplitl [HS HR]
  · isplitl [HS]; · iexact HS
    iexact HR
  isplitl [H0]; · iexact H0
  iexact H1

/-- The body obligation: the input's buffer handed back over whatever lies past the array, the output's written at a row
    block's last point and handed back as it was at the others. -/
theorem obligation (c : Dev nD) : BodyObligationLoose (dat V c) (defs₀ (F := F)) Variants.none () Set.univ := fun t => by
  rw [bigSep_W0, bigSep_W0, defs₀_row]
  rw [show (dat V c).owesAt () t.succ = (dat V c).owesAt () t.castSucc from rfl]
  iintro ⟨HΦ, Ho, ⟨%d0, H0⟩, ⟨%d1, H1⟩⟩
  rw [before_0]
  iapply (point V c t ((dat V c).before 1 t d1) d0 _)
  isplitl [HΦ]; · iexact HΦ
  isplitl [H0]; · iexact H0
  isplitl [H1]; · iexact H1
  iintro ⟨HΦ, H0, H1⟩
  isplitl [HΦ]; · iexact HΦ
  isplitl [Ho]; · iexact Ho
  isplitl [H0]
  · dsimp only [cfg0, idle0]
    iexists d0
    rw [after_0, cut_stg]
    iexact H0
  by_cases h : k0_cond2 (grid0.coords t) = 1#1
  · have hi : cfg0.idle 1 (cfg0.grid.coords t) = false := by
      show (!(k0_cond2 (grid0.coords t) == 1#1)) = false
      rw [h]; rfl
    rw [hi]
    dsimp only [cfg0]
    rw [after_1]
    unfold nextO; rw [if_pos h]
    iexact H1
  · have hi : cfg0.idle 1 (cfg0.grid.coords t) = true := by
      show (!(k0_cond2 (grid0.coords t) == 1#1)) = true
      rw [beq_eq_false_iff_ne.mpr h]; rfl
    have hf : (cfg0.win 1).flush t = false := by
      rw [Bool.eq_false_iff]; exact fun hf => h ((cond2_iff t).mpr ((flush0_1 t).mp hf))
    rw [hi, hf]
    iexists d1
    unfold nextO; rw [if_neg h]
    iexact H1

/-- The scoped buffers no window stages are the scratch and the rest. -/
theorem scoped_split (c : Dev nD) : (Pipeline.scopedRest (Ix := Unit) (Name := ℕ) (U := UR sig nD τ) (Lvl := ℕ) (Val := Elt F) spec0 c : sProp 𝕄)
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ Pipeline.scopedRestBut (Ix := Unit) (Name := ℕ) (U := UR sig nD τ) (Lvl := ℕ) (Val := Elt F) spec0 c [cc0_scratch0, cc0_scratch1]) :=
  Pipeline.scopedRest_split_of_list spec0 c [cc0_scratch0, cc0_scratch1] (by decide) (by decide)

theorem enter (c : Dev nD) : iprop(Pipeline.scopedRest spec0 c ∗ BI.emp) ⊢ (dat V c).Φ 0 := by
  rw [scoped_split]
  dsimp only [dat]
  unfold scrHeld
  simp only [owns_whole_eq]
  iintro ⟨⟨⟨⟨%f0, H0⟩, ⟨%f1, H1⟩⟩, HR⟩, -⟩
  isplitl [H0 H1]
  · iexists f0, f1
    isplitr; · ipureintro; exact fun h => absurd rfl h
    isplitl [H0]
    · iexists f0; isplitr; · ipureintro; rfl
      iexact H0
    iexists f1; isplitr; · ipureintro; rfl
    iexact H1
  iexact HR

theorem leave (c : Dev nD) : (dat V c).Φ (Fin.last cfg0.N) ⊢ iprop(Pipeline.scopedRest spec0 c ∗ BI.emp) := by
  rw [scoped_split]
  dsimp only [dat]
  unfold scrHeld
  simp only [owns_whole_eq]
  iintro ⟨⟨%X4, %X5, -, ⟨%f0, -, H0⟩, ⟨%f1, -, H1⟩⟩, HR⟩
  isplitl [H0 H1 HR]
  · isplitl [H0 H1]
    · isplitl [H0]; · iexists f0; iexact H0
      iexists f1; iexact H1
    iexact HR
  iempintro

end Cert.KernelIdeal.R0
end
-- ==== Proof.Region1.lean ====
module

public import proofs.«01_k».proof.Proof.Block
public import proofs.«01_k».proof.Proof.Bodies
public import proofs.«01_k».proof.Proof.Gen.KernelIdeal.Launch
public import proofs.«01_k».proof.Proof.Gen.KernelIdeal.Points
public import Idealize.ShloMosaic.Lib.Pipeline.FrameBody

@[expose] public section

/-! The second sampling call: what its staged block determines, its proof data, and its body at every point. -/

set_option maxRecDepth 16384

noncomputable section

namespace Cert.KernelIdeal.R1

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- A lane whose column is inside the array is moved by the fetch. -/
theorem moved_of_lt (i : grid0.Coords) (j : S8x2048.Idx) (h : (i 1).val * 2048 + (j 1).val < 100000) : win1_0.moved i j = true :=
  (win1_0.moved_iff i j).mpr (lt_extent i j h)

/-- The negated reciprocals do not depend on what lies past the end of the array. -/
theorem pay9_fill (i : grid0.Coords) (d d' : S8x2048.Idx → F .f32) (g : (win1_0.xblock i).Idx → F .f32) :
    k0_pay9 i (win1_0.fill i d g : Vec F S8x2048 .f32) = k0_pay9 i (win1_0.fill i d' g : Vec F S8x2048 .f32) :=
  pay9_congr i _ _ fun j h => by
    have hm := moved_of_lt i j h
    unfold Window.fill; rw [dif_pos hm, dif_pos hm]

variable (V : Dev nD → Valuation τ sig (Elt F))

/-- The part of the array point `t` reads, and the block it is staged in, filled out. -/
def blk (c : Dev nD) (t : Fin grid0.N) : (win1_0.xblock (grid0.coords t)).Idx → Elt F .f32 :=
  ((cfg1.win 0).blk t).view.read (Elt F) (V c (Proc.devRef .tc (Pipeline.arrRef spec1 0)))
def stg (c : Dev nD) (t : Fin grid0.N) : Vec F S8x2048 .f32 :=
  win1_0.fill (grid0.coords t) (fun _ => (Scalar.ofBits .f32 0#32 : F .f32)) (blk V c t)

/-- The negated reciprocals of point `t`'s block. -/
def nr (c : Dev nD) (t : Fin grid0.N) : FVec F S8x2048 .f32 := k0_pay9 (grid0.coords t) (stg V c t)

abbrev key0 : BitVec 32 := 1948878966#32
abbrev key1 : BitVec 32 := 4237131848#32
abbrev key2 : BitVec 32 := 1948878966#32 ^^^ 4237131848#32 ^^^ 0x1BD11BDA#32

/-- The scratch after `n` points. -/
def hist (c : Dev nD) (n : ℕ) : Vec F S32x8x2048 .f32 × Vec F S32x8x2048 .i32 := scr key0 key1 key2 (nr V c) n

/-- The proof data: the arrays at `V`; after the body the block staged, and the row block's draws; the scratch's history. -/
def dat (c : Dev nD) : Dat τ (Elt F) Unit ℕ (UR sig nD τ) ℕ cfg1 c where
  A w := V c (Proc.devRef .tc (Pipeline.arrRef spec1 w))
  after w t := match w with
    | ⟨0, _⟩ => stg V c t
    | ⟨1, _⟩ => finOut (hist V c (t.val + 1)).1 (hist V c (t.val + 1)).2
  Φ n := iprop(scrHeld key0 key1 key2 (nr V c) c (Memref.whole cc1_scratch0) (Memref.whole cc1_scratch1) n.val
    ∗ Pipeline.scopedRestBut (Ix := Unit) (Name := ℕ) (U := UR sig nD τ) (Lvl := ℕ) (Val := Elt F) spec1 c [cc1_scratch0, cc1_scratch1])
  q _ := fullShare
  owed _ := 0

theorem before_0 (c : Dev nD) (t : Fin cfg1.N) (d) : (dat V c).before 0 t d = win1_0.fill (grid0.coords t) d (blk V c t) := by
  unfold Dat.before; rw [if_pos (fetch1_0 t)]; rfl

theorem defs₀_row (t : Fin cfg1.N) : defs₀ (F := F) .tc cfg1.body (cfg1.bodyArgs t (cfg1.slots t)) = bodyAt1 t := by
  unfold defs₀; rw [Defs.onTc_tc]

theorem after_0 (c : Dev nD) (t : Fin cfg1.N) : (dat V c).after 0 t = stg V c t := by dsimp only [dat]
theorem after_1 (c : Dev nD) (t : Fin cfg1.N) : (dat V c).after 1 t = finOut (hist V c (t.val + 1)).1 (hist V c (t.val + 1)).2 := by dsimp only [dat]

theorem cut_stg (c : Dev nD) (t : Fin cfg1.N) : (cfg1.win 0).cut (cfg1.grid.coords t) (stg V c t) = blk V c t := by
  unfold stg; exact win1_0.cut_fill _ _ _

/-- The body's triple at a point: the block in place, the draws written when the row block is done and the buffer left as it
    was otherwise, the history one point on. -/
theorem point (c : Dev nD) (t : Fin cfg1.N) (X3 : Vec F S8x32 .i32) (d : S8x2048.Idx → F .f32) (K : PUnit → sProp 𝕄) :
    iprop((dat V c).Φ t.castSucc ∗ owns (c : Thread nD τ) (st1_0 t) fullShare (win1_0.fill (grid0.coords t) d (blk V c t))
        ∗ owns (c : Thread nD τ) (st1_1 t) fullShare X3
        ∗ (iprop((dat V c).Φ t.succ ∗ owns (c : Thread nD τ) (st1_0 t) fullShare (win1_0.fill (grid0.coords t) d (blk V c t))
            ∗ owns (c : Thread nD τ) (st1_1 t) fullShare (nextO (grid0.coords t) X3 (hist V c (t.val + 1)).1 (hist V c (t.val + 1)).2)) -∗ K ⟨⟩))
      ⊢ wp frame (wpE (defs₀ (F := F)) Variants.none c none) Set.univ (bodyAt1 t) K := by
  have hnr : k0_pay9 (grid0.coords t) (win1_0.fill (grid0.coords t) d (blk V c t) : Vec F S8x2048 .f32) = nr V c t := pay9_fill _ _ _ _
  unfold bodyAt1
  rw [body1]
  dsimp only [dat, hist]
  iintro ⟨⟨HS, HR⟩, H0, H1, Hk⟩
  have hp := wp_point key0 key1 key2 (nr V c) c Set.univ t (st1_0 t) (st1_1 t) (Memref.whole cc1_scratch0) (Memref.whole cc1_scratch1)
    (win1_0.fill (grid0.coords t) d (blk V c t)) X3 hnr K
  iapply hp
  isplitl [HS]; · iexact HS
  isplitl [H0]; · iexact H0
  isplitl [H1]; · iexact H1
  iintro ⟨HS, H0, H1⟩
  iapply Hk
  isplitl [HS HR]
  · isplitl [HS]; · iexact HS
    iexact HR
  isplitl [H0]; · iexact H0
  iexact H1

/-- The body obligation: the input's buffer handed back over whatever lies past the array, the output's written at a row
    block's last point and handed back as it was at the others. -/
theorem obligation (c : Dev nD) : BodyObligationLoose (dat V c) (defs₀ (F := F)) Variants.none () Set.univ := fun t => by
  rw [bigSep_W1, bigSep_W1, defs₀_row]
  rw [show (dat V c).owesAt () t.succ = (dat V c).owesAt () t.castSucc from rfl]
  iintro ⟨HΦ, Ho, ⟨%d0, H0⟩, ⟨%d1, H1⟩⟩
  rw [before_0]
  iapply (point V c t ((dat V c).before 1 t d1) d0 _)
  isplitl [HΦ]; · iexact HΦ
  isplitl [H0]; · iexact H0
  isplitl [H1]; · iexact H1
  iintro ⟨HΦ, H0, H1⟩
  isplitl [HΦ]; · iexact HΦ
  isplitl [Ho]; · iexact Ho
  isplitl [H0]
  · dsimp only [cfg1, idle1]
    iexists d0
    rw [after_0, cut_stg]
    iexact H0
  by_cases h : k0_cond2 (grid0.coords t) = 1#1
  · have hi : cfg1.idle 1 (cfg1.grid.coords t) = false := by
      show (!(k0_cond2 (grid0.coords t) == 1#1)) = false
      rw [h]; rfl
    rw [hi]
    dsimp only [cfg1]
    rw [after_1]
    unfold nextO; rw [if_pos h]
    iexact H1
  · have hi : cfg1.idle 1 (cfg1.grid.coords t) = true := by
      show (!(k0_cond2 (grid0.coords t) == 1#1)) = true
      rw [beq_eq_false_iff_ne.mpr h]; rfl
    have hf : (cfg1.win 1).flush t = false := by
      rw [Bool.eq_false_iff]; exact fun hf => h ((cond2_iff t).mpr ((flush1_1 t).mp hf))
    rw [hi, hf]
    iexists d1
    unfold nextO; rw [if_neg h]
    iexact H1

/-- The scoped buffers no window stages are the scratch and the rest. -/
theorem scoped_split (c : Dev nD) : (Pipeline.scopedRest (Ix := Unit) (Name := ℕ) (U := UR sig nD τ) (Lvl := ℕ) (Val := Elt F) spec1 c : sProp 𝕄)
    = iprop(((∃ f : Buf (Elt F) ((c : Thread nD τ).loc cc1_scratch0), ((c : Thread nD τ).loc cc1_scratch0) ↦{fullShare} f)
        ∗ (∃ f : Buf (Elt F) ((c : Thread nD τ).loc cc1_scratch1), ((c : Thread nD τ).loc cc1_scratch1) ↦{fullShare} f))
      ∗ Pipeline.scopedRestBut (Ix := Unit) (Name := ℕ) (U := UR sig nD τ) (Lvl := ℕ) (Val := Elt F) spec1 c [cc1_scratch0, cc1_scratch1]) :=
  Pipeline.scopedRest_split_of_list spec1 c [cc1_scratch0, cc1_scratch1] (by decide) (by decide)

theorem enter (c : Dev nD) : iprop(Pipeline.scopedRest spec1 c ∗ BI.emp) ⊢ (dat V c).Φ 0 := by
  rw [scoped_split]
  dsimp only [dat]
  unfold scrHeld
  simp only [owns_whole_eq]
  iintro ⟨⟨⟨⟨%f0, H0⟩, ⟨%f1, H1⟩⟩, HR⟩, -⟩
  isplitl [H0 H1]
  · iexists f0, f1
    isplitr; · ipureintro; exact fun h => absurd rfl h
    isplitl [H0]
    · iexists f0; isplitr; · ipureintro; rfl
      iexact H0
    iexists f1; isplitr; · ipureintro; rfl
    iexact H1
  iexact HR

theorem leave (c : Dev nD) : (dat V c).Φ (Fin.last cfg1.N) ⊢ iprop(Pipeline.scopedRest spec1 c ∗ BI.emp) := by
  rw [scoped_split]
  dsimp only [dat]
  unfold scrHeld
  simp only [owns_whole_eq]
  iintro ⟨⟨%X4, %X5, -, ⟨%f0, -, H0⟩, ⟨%f1, -, H1⟩⟩, HR⟩
  isplitl [H0 H1 HR]
  · isplitl [H0 H1]
    · isplitl [H0]; · iexists f0; iexact H0
      iexists f1; iexact H1
    iexact HR
  iempintro

end Cert.KernelIdeal.R1
end
-- ==== Proof.Region2.lean ====
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.FrameBody
public import Idealize.ShloMosaic.Lib.VecWindow
public import Idealize.ShloMosaic.Lib.Tactic

@[expose] public section

/-! The product call: one point, the product of the two blocks of draws. -/

set_option maxRecDepth 16384

noncomputable section

namespace Cert.KernelIdeal.R2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)

variable {F : FTy → Type} [FloatOps F]

local notation "𝕄" => MT nD τ sig Unit (Elt F) ℕ (UR sig nD τ) ℕ

/-- What the body stores, from the two blocks it loads. -/
def mm (a : Vec F S128x32 .i32) (b : Vec F S32x128 .i32) : Vec F S128x128 .i32 :=
  let s2 := k2_pay6 (k2_pay2 a) (k2_pay3 b) (k2_pay4 a b) (k2_pay5 a b)
  k2_pay1 (k2_pay2 a) (k2_pay3 b) (k2_pay8 (k2_pay2 a) (k2_pay3 b) s2 (k2_pay7 (k2_pay2 a) (k2_pay3 b))) (k2_pay9 (k2_pay2 a) (k2_pay3 b))

set_option maxHeartbeats 1000000 in
/-- The body over whole staging buffers: the product of the two inputs' contents is stored. -/
theorem wp_mm (c : Dev nD) (E : Set ℕ) (arg0 : Memref sig .tc .vmem S128x32 .i32) (harg0 : arg0.IsWhole) (arg1 : Memref sig .tc .vmem S32x128 .i32) (harg1 : arg1.IsWhole)
    (arg2 : Memref sig .tc .vmem S128x128 .i32) (harg2 : arg2.IsWhole) (x0 : Vec F S128x32 .i32) (x1 : Vec F S32x128 .i32) (X2 : Vec F S128x128 .i32) (K : PUnit → sProp 𝕄) :
    iprop(owns (c : Thread nD τ) arg0 fullShare x0 ∗ owns (c : Thread nD τ) arg1 fullShare x1 ∗ owns (c : Thread nD τ) arg2 fullShare X2
        ∗ (iprop(owns (c : Thread nD τ) arg0 fullShare x0 ∗ owns (c : Thread nD τ) arg1 fullShare x1 ∗ owns (c : Thread nD τ) arg2 fullShare (mm x0 x1)) -∗ K ⟨⟩))
      ⊢ wp frame (wpE (defs₀ (F := F)) Variants.none c none) E (cc2__matmul_body arg0 harg0 arg1 harg1 arg2 harg2) K := by
  simp only [cc2__matmul_body_eq_skeleton]; unfold cc2__matmul_body_skel
  simp only [k2_part1_eq_skeleton, k2_part2_eq_skeleton, k2_part3_eq_skeleton]
  unfold owns
  iintro ⟨⟨%f0, %hf0, H0⟩, ⟨%f1, %hf1, H1⟩, ⟨%f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_full]
  unfold mm
  rw [← View.readAt_full arg0.view f0 inb_S128x32_S128x32_0_0, ← View.readAt_full arg1.view f1 inb_S32x128_S32x128_0_0]
  rfl

variable (V : Dev nD → Valuation τ sig (Elt F))

/-- The two blocks, whole arrays. -/
def blk0 (c : Dev nD) (t : Fin cfg2.N) : Vec F S128x32 .i32 := ((cfg2.win 0).blk t).view.read (Elt F) (V c (Proc.devRef .tc (Pipeline.arrRef spec2 0)))
def blk1 (c : Dev nD) (t : Fin cfg2.N) : Vec F S32x128 .i32 := ((cfg2.win 1).blk t).view.read (Elt F) (V c (Proc.devRef .tc (Pipeline.arrRef spec2 1)))

/-- The proof data. -/
def dat (c : Dev nD) : Dat τ (Elt F) Unit ℕ (UR sig nD τ) ℕ cfg2 c where
  A w := V c (Proc.devRef .tc (Pipeline.arrRef spec2 w))
  after w t := match w with
    | ⟨0, _⟩ => blk0 V c t
    | ⟨1, _⟩ => blk1 V c t
    | ⟨2, _⟩ => mm (blk0 V c t) (blk1 V c t)
  Φ _ := Pipeline.scopedRest (Ix := Unit) (Name := ℕ) (U := UR sig nD τ) (Lvl := ℕ) (Val := Elt F) spec2 c
  q _ := fullShare
  owed _ := 0

theorem before_0 (c : Dev nD) (t : Fin cfg2.N) (d) : (dat V c).before 0 t d = blk0 V c t := by
  unfold Dat.before; rw [if_pos (fetch2_0 t)]; rfl
theorem before_1 (c : Dev nD) (t : Fin cfg2.N) (d) : (dat V c).before 1 t d = blk1 V c t := by
  unfold Dat.before; rw [if_pos (fetch2_1 t)]; rfl
theorem after_0 (c : Dev nD) (t : Fin cfg2.N) : (dat V c).after 0 t = blk0 V c t := by dsimp only [dat]
theorem after_1 (c : Dev nD) (t : Fin cfg2.N) : (dat V c).after 1 t = blk1 V c t := by dsimp only [dat]
theorem after_2 (c : Dev nD) (t : Fin cfg2.N) : (dat V c).after 2 t = mm (blk0 V c t) (blk1 V c t) := by dsimp only [dat]

theorem defs₀_row (t : Fin cfg2.N) : defs₀ (F := F) .tc cfg2.body (cfg2.bodyArgs t (cfg2.slots t)) = bodyAt2 t := by
  unfold defs₀; rw [Defs.onTc_tc]

theorem obligation (c : Dev nD) : BodyObligationLoose (dat V c) (defs₀ (F := F)) Variants.none () Set.univ := fun t => by
  rw [bigSep_W2, bigSep_W2, defs₀_row]
  rw [show (dat V c).owesAt () t.succ = (dat V c).owesAt () t.castSucc from rfl, show (dat V c).Φ t.succ = (dat V c).Φ t.castSucc from rfl]
  iintro ⟨HΦ, Ho, ⟨%d0, H0⟩, ⟨%d1, H1⟩, ⟨%d2, H2⟩⟩
  rw [before_0, before_1]
  unfold bodyAt2
  iapply (wp_mm c Set.univ _ _ _ _ _ _ (blk0 V c t) (blk1 V c t) _ _)
  isplitl [H0]; · iexact H0
  isplitl [H1]; · iexact H1
  isplitl [H2]; · iexact H2
  iintro ⟨H0, H1, H2⟩
  isplitl [HΦ]; · iexact HΦ
  isplitl [Ho]; · iexact Ho
  dsimp only [cfg2]
  rw [after_0, after_1, after_2]
  isplitl [H0]; · iexact H0
  isplitl [H1]; · iexact H1
  iexact H2

theorem enter (c : Dev nD) : iprop(Pipeline.scopedRest spec2 c ∗ BI.emp) ⊢ (dat V c).Φ 0 := by
  dsimp only [dat]
  iintro ⟨H, -⟩; iexact H

theorem leave (c : Dev nD) : (dat V c).Φ (Fin.last cfg2.N) ⊢ iprop(Pipeline.scopedRest spec2 c ∗ BI.emp) := by
  dsimp only [dat]
  iintro H
  isplitl [H]; · iexact H
  iempintro

end Cert.KernelIdeal.R2
end
-- ==== Proof.Run.lean ====
module

public import proofs.«01_k».proof.Proof.Region0
public import proofs.«01_k».proof.Proof.Region1
public import proofs.«01_k».proof.Proof.Region2
public import proofs.«01_k».proof.Proof.Gen.KernelIdeal.Regions
public import Idealize.ShloMosaic.Lib.Pipeline.RegionArraysS

@[expose] public section

/-! The whole program: the three calls and the transpose between them, from any memory, with what every buffer holds at the end. -/

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg afterRegion)

variable {F : FTy → Type} [FloatOps F]

local notation "𝕄" => MT nD τ sig Unit (Elt F) ℕ (UR sig nD τ) ℕ

variable (m : (ℓ : Loc nD τ sig) → Buf (Elt F) ℓ)

/-! ## The buffers between the items -/

def W0 (c : Dev nD) : Valuation τ sig (Elt F) := fun b => m (c, b)
def W1 (c : Dev nD) : Valuation τ sig (Elt F) := afterRegion (R0.dat (W0 m) c) (W0 m c)
def W2 (c : Dev nD) : Valuation τ sig (Elt F) := afterRegion (R1.dat (W1 m) c) (W1 m c)
def W3 (c : Dev nD) : Valuation τ sig (Elt F) := StableHlo.after hostOps2 (W2 m c)
def W4 (c : Dev nD) : Valuation τ sig (Elt F) := afterRegion (R2.dat (W3 m) c) (W3 m c)

/-- Each call's proof data, from the buffers it is entered with. -/
def pdats : (p : Fin 3) → (c : Dev nD) → Dat τ (Elt F) Unit ℕ (UR sig nD τ) ℕ (cfgs p) c
  | ⟨0, _⟩ => fun c => R0.dat (W0 m) c
  | ⟨1, _⟩ => fun c => R1.dat (W1 m) c
  | ⟨2, _⟩ => fun c => R2.dat (W3 m) c

/-- Every cell of the TensorCore has the one level. -/
def lvls : GSem nD τ sig → Finset Unit := fun g => if g.1.2 = .tc then {()} else ∅
def lv0 : GSem nD τ sig → Unit → ℕ := fun _ _ => 0

theorem cut (p : Fin 3) : Pipeline.LevelCut (pcfgs (F := F)) adm () lvls lv0 p (fun _ => 0) fun _ => 0 where
  hι c w s := by unfold lvls; rw [if_pos rfl]; exact Finset.mem_singleton_self _
  hιb _ _ _ := le_refl _
  hD _ g i h := absurd h (lt_irrefl _)

/-- The held set. -/
abbrev S : Finset (DevRef τ sig) := Pipeline.ucRefs τ sig

set_option backward.isDefEq.respectTransparency.types false in
def reg0 : RegionSeg (pcfgs (F := F)) adm (pdats m) () defs₀ Variants.none lvls lv0 0 :=
  RegionSeg.ofHeldIn (pcfgs (F := F)) adm (pdats m) () defs₀ Variants.none lvls lv0 0 (fun _ => 0) S (fun _ => BI.emp) (fun _ => BI.emp)
    launch0.toP rfl (fun c => R0.obligation (W0 m) c) (fun _ _ => rfl) (fun _ => rfl) (fun c => (R0.dat (W0 m) c).share_full fun _ => rfl)
    (fun c => R0.enter (W0 m) c) (fun c => R0.leave (W0 m) c) (fun _ => 0) (cut 0) (fun _ => BI.emp) (W0 m) fun _ _ => rfl

set_option backward.isDefEq.respectTransparency.types false in
def reg1 : RegionSeg (pcfgs (F := F)) adm (pdats m) () defs₀ Variants.none lvls lv0 1 :=
  RegionSeg.ofHeldIn (pcfgs (F := F)) adm (pdats m) () defs₀ Variants.none lvls lv0 1 (fun _ => 0) S (fun _ => BI.emp) (fun _ => BI.emp)
    launch1.toP rfl (fun c => R1.obligation (W1 m) c) (fun _ _ => rfl) (fun _ => rfl) (fun c => (R1.dat (W1 m) c).share_full fun _ => rfl)
    (fun c => R1.enter (W1 m) c) (fun c => R1.leave (W1 m) c) (fun _ => 0) (cut 1) (fun _ => BI.emp) (W1 m) fun _ _ => rfl

set_option backward.isDefEq.respectTransparency.types false in
def reg2 : RegionSeg (pcfgs (F := F)) adm (pdats m) () defs₀ Variants.none lvls lv0 2 :=
  RegionSeg.ofHeldIn (pcfgs (F := F)) adm (pdats m) () defs₀ Variants.none lvls lv0 2 (fun _ => 0) S (fun _ => BI.emp) (fun _ => BI.emp)
    launch2.toP rfl (fun c => R2.obligation (W3 m) c) (fun _ _ => rfl) (fun _ => rfl) (fun c => (R2.dat (W3 m) c).share_full fun _ => rfl)
    (fun c => R2.enter (W3 m) c) (fun c => R2.leave (W3 m) c) (fun _ => 0) (cut 2) (fun _ => BI.emp) (W3 m) fun _ _ => rfl

/-- What rides along between the items: the core owes nothing. -/
def idle (c : Dev nD) : sProp 𝕄 := iprop((∃ W, owes (c : Thread nD τ) (0 : CellTallies nD τ sig Unit) W) ∗ BI.emp ∗ BI.emp)

/-- The transpose between the calls. -/
def host : HostSeg (Ix := Unit) (Name := ℕ) (U := UR sig nD τ) (Lvl := ℕ) (pcfgs (F := F)) defs₀ Variants.none lvls lv0 :=
  HostSeg.ofOps _ _ _ _ _ S hostOps2
    (fun op h => Pipeline.sub_ucRefs op ((List.forall_iff_forall_mem.mp hostOps2_sub) op h))
    (fun op h => (List.forall_iff_forall_mem.mp hostOps2_fresh) op h) (W2 m) idle

/-- The items in order. -/
def items : List (Seg (pcfgs (F := F)) adm (pdats m) () defs₀ Variants.none lvls lv0) :=
  [.region (reg0 m), .region (reg1 m), .host (host m), .region (reg2 m)]

theorem arr_sub0 : Pipeline.arrRefs (τ := τ) spec0 ⊆ S := Pipeline.arrRefs_sub_ucRefs spec0 (by decide)
theorem arr_sub1 : Pipeline.arrRefs (τ := τ) spec1 ⊆ S := Pipeline.arrRefs_sub_ucRefs spec1 (by decide)
theorem arr_sub2 : Pipeline.arrRefs (τ := τ) spec2 ⊆ S := Pipeline.arrRefs_sub_ucRefs spec2 (by decide)

theorem pre0 (c : Dev nD) : iprop(StableHlo.held (c : Thread nD τ) S (W0 m c) ∗ idle c) ⊢ (reg0 m).pre c := by
  unfold reg0 idle
  exact RegionSeg.ofHeldIn_pre (pcs := pcfgs (F := F)) (a := adm) (pdats := pdats m) (p := 0) (D := fun _ => 0) (S := S) (X := fun _ => BI.emp) (R := fun _ => BI.emp) (W := W0 m) arr_sub0 c
theorem pre1 (c : Dev nD) : iprop(StableHlo.held (c : Thread nD τ) S (W1 m c) ∗ idle c) ⊢ (reg1 m).pre c := by
  unfold reg1 idle
  exact RegionSeg.ofHeldIn_pre (pcs := pcfgs (F := F)) (a := adm) (pdats := pdats m) (p := 1) (D := fun _ => 0) (S := S) (X := fun _ => BI.emp) (R := fun _ => BI.emp) (W := W1 m) arr_sub1 c
theorem pre2 (c : Dev nD) : iprop(StableHlo.held (c : Thread nD τ) S (W3 m c) ∗ idle c) ⊢ (reg2 m).pre c := by
  unfold reg2 idle
  exact RegionSeg.ofHeldIn_pre (pcs := pcfgs (F := F)) (a := adm) (pdats := pdats m) (p := 2) (D := fun _ => 0) (S := S) (X := fun _ => BI.emp) (R := fun _ => BI.emp) (W := W3 m) arr_sub2 c
theorem W1_eq (c : Dev nD) : W1 m c = afterRegion (pdats m 0 c) (W0 m c) := rfl
theorem post0 (c : Dev nD) : (reg0 m).post c ⊢ iprop(StableHlo.held (c : Thread nD τ) S (W1 m c) ∗ idle c) := by
  unfold reg0; rw [W1_eq]; exact RegionSeg.ofHeldIn_post arr_sub0 c
theorem W2_eq (c : Dev nD) : W2 m c = afterRegion (pdats m 1 c) (W1 m c) := rfl
theorem post1 (c : Dev nD) : (reg1 m).post c ⊢ iprop(StableHlo.held (c : Thread nD τ) S (W2 m c) ∗ idle c) := by
  unfold reg1; rw [W2_eq]; exact RegionSeg.ofHeldIn_post arr_sub1 c
theorem W4_eq (c : Dev nD) : W4 m c = afterRegion (pdats m 2 c) (W3 m c) := rfl
theorem post2 (c : Dev nD) : (reg2 m).post c ⊢ iprop(StableHlo.held (c : Thread nD τ) S (W4 m c) ∗ idle c) := by
  unfold reg2; rw [W4_eq]; exact RegionSeg.ofHeldIn_post arr_sub2 c

set_option backward.isDefEq.respectTransparency.types false in
/-- Every weakly fair execution from memory `m` with zero counters ends, with every unscoped buffer at `W4` and every counter zero. -/
theorem run (ρ : Dev nD → PrngReg) :
    θ_run defs (onTc (τ := τ) (main (F := F))) ⟨m, fun _ => 0, ρ⟩ (fun r =>
      (∀ c : Dev nD, ∀ b ∈ S, r.2.mem ((c.tc : Thread nD τ).1, b) = W4 m c b) ∧ r.2.sem = fun _ => 0) := by
  refine Pipeline.θ_run_regions_kit_dev_sems (pcfgs (F := F)) adm (pdats m) () cellOf_inj emb₁ defs₀ Variants.none lvls lv0 m ρ main
    (fun _ => items m)
    (fun c Q => by
      rewrite [main_chain c, Seg.run_eq_chain,
        show (items m).map Seg.prog = [
          Prog.lift (.customCall (Pipeline.entry 0) ()),
          Prog.lift (.customCall (Pipeline.entry 1) ()),
          StableHlo.seq hostOps2,
          Prog.lift (.customCall (Pipeline.entry 2) ()) ] from rfl]
      exact .rfl)
    (fun c => by simp only [items, Seg.pipes_host, Seg.pipes_region, Seg.pipes_nil]; decide) (O₀ := 0)
    (hL := fun g h => if_neg h) (G := fun _ => iprop(emp))
    (u₀ := initOf (Pipeline.cells cfgs cellOf_inj) (Pipeline.launchToks cfgs cellOf_inj))
    (hu₀ := ?_)
    (T₀ := fun c => iprop(StableHlo.held (c : Thread nD τ) S (W0 m c) ∗ idle c))
    (Tₙ := fun c => StableHlo.held (c : Thread nD τ) S (W4 m c))
    (hch := fun c => ⟨pre0 m c, (post0 m c).trans (pre1 m c), post1 m c, pre2 m c, (post2 m c).trans (sep_mono .rfl ?_)⟩)
    (hinit := ?_) (QY := fun c s => ∀ b ∈ S, s.mem ((c.tc : Thread nD τ).1, b) = W4 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · unfold idle
    iintro ⟨H, -, -⟩; iexact H
  · refine Pipeline.initEach lvls lv0 fun c => ?_
    rw [show unscopedBufs c (fun b => m ((c.tc : Thread nD τ).loc b)) = StableHlo.held (c.tc : Thread nD τ) S (W0 m c)
      from Pipeline.unscopedBufs_held (Ix := Unit) (Name := ℕ) (U := UR sig nD τ) (Lvl := ℕ) c (W0 m c)]
    unfold idle
    iintro ⟨⟨Hh, -, HO, -, -, -⟩, -⟩
    imodintro
    isplitl [Hh]; · iexact Hh
    isplitl [HO]; · iexists _; iexact HO
    isplitr <;> iempintro
  · unfold StableHlo.held
    iintro ⟨Hh, HSI⟩
    ihave Hr := (pointsTo_read_all S (fun b => ((c.tc : Thread nD τ).1, b)) (W4 m c) s') $$ [Hh HSI]
    · isplitl [Hh] <;> iassumption
    imodintro; iexact Hr

end Cert.KernelIdeal.Whole
end
-- ==== Proof.Frames.lean ====
module

public import proofs.«01_k».proof.Proof.Run

@[expose] public section

/-! What the kernel's buffers hold at the end, one at a time: the arguments as they were, and the result's array from the
    third call's output, whose operands are the first two calls' outputs, the second one transposed. -/

set_option maxRecDepth 16384

noncomputable section

namespace Cert.KernelIdeal.Whole

open Cert.KernelIdeal Cert.KernelIdeal.Gen
open Idealize.ShloMosaic Idealize.ShloMosaic.TcCoe Idealize.SL.Sem
open Idealize.ShloMosaic.Pipeline (Dat afterRegion afterRegion_keeps afterRegion_arr)

variable {F : FTy → Type} [FloatOps F]
variable (m : (ℓ : Loc nD τ sig) → Buf (Elt F) ℓ) (c : Dev nD)

/-- The first call writes its output array only. -/
theorem W1_keep (r : Ref sig .tc) (h : r ≠ main_v0) : W1 m c (Proc.devRef .tc r) = W0 m c (Proc.devRef .tc r) :=
  afterRegion_keeps _ _ launch0.win.arr_inj (fun | 0 => rfl | 1 => rfl | ⟨_ + 2, h⟩ => absurd h (Nat.not_lt.2 (Nat.le_add_left _ _))) r
    (fun | 0 => fun _ => rfl | 1 => fun e => absurd e.symm h | ⟨_ + 2, h⟩ => absurd h (Nat.not_lt.2 (Nat.le_add_left _ _)))

/-- The second call writes its output array only. -/
theorem W2_keep (r : Ref sig .tc) (h : r ≠ main_v1) : W2 m c (Proc.devRef .tc r) = W1 m c (Proc.devRef .tc r) :=
  afterRegion_keeps _ _ launch1.win.arr_inj (fun | 0 => rfl | 1 => rfl | ⟨_ + 2, h⟩ => absurd h (Nat.not_lt.2 (Nat.le_add_left _ _))) r
    (fun | 0 => fun _ => rfl | 1 => fun e => absurd e.symm h | ⟨_ + 2, h⟩ => absurd h (Nat.not_lt.2 (Nat.le_add_left _ _)))

/-- The transpose writes its result only. -/
theorem W3_keep (r : Ref sig .tc) (h : r ∉ hostOps2_W) : W3 m c (Proc.devRef .tc r) = W2 m c (Proc.devRef .tc r) :=
  StableHlo.after_of_writes_sub hostOps2 _ hostOps2_writes h

/-- The third call writes the result only. -/
theorem W4_keep (r : Ref sig .tc) (h : r ≠ main_v3) : W4 m c (Proc.devRef .tc r) = W3 m c (Proc.devRef .tc r) :=
  afterRegion_keeps _ _ launch2.win.arr_inj (fun | 0 => rfl | 1 => rfl | 2 => rfl | ⟨_ + 3, h⟩ => absurd h (Nat.not_lt.2 (Nat.le_add_left _ _))) r
    (fun | 0 => fun _ => rfl | 1 => fun _ => rfl | 2 => fun e => absurd e.symm h | ⟨_ + 3, h⟩ => absurd h (Nat.not_lt.2 (Nat.le_add_left _ _)))

/-- The arguments end as they were. -/
theorem W4_arg0 : W4 m c (Proc.devRef .tc main_arg0) = m (c, Proc.devRef .tc main_arg0) := by
  rw [W4_keep m c _ (by decide), W3_keep m c _ (by decide), W2_keep m c _ (by decide), W1_keep m c _ (by decide)]; rfl
theorem W4_arg1 : W4 m c (Proc.devRef .tc main_arg1) = m (c, Proc.devRef .tc main_arg1) := by
  rw [W4_keep m c _ (by decide), W3_keep m c _ (by decide), W2_keep m c _ (by decide), W1_keep m c _ (by decide)]; rfl

/-- The result is the third call's output. -/
theorem W4_v3 : W4 m c (Proc.devRef .tc main_v3) = (R2.dat (W3 m) c).arrAt 2 cfg2.N := afterRegion_arr _ _ launch2.win.arr_inj 2
/-- The first draws reach the third call as the first call left them. -/
theorem W3_v0 : W3 m c (Proc.devRef .tc main_v0) = (R0.dat (W0 m) c).arrAt 1 cfg0.N := by
  rw [W3_keep m c _ (by decide), W2_keep m c _ (by decide)]; exact afterRegion_arr _ _ launch0.win.arr_inj 1
/-- The second draws, transposed. -/
theorem W2_v1 : W2 m c (Proc.devRef .tc main_v1) = (R1.dat (W1 m) c).arrAt 1 cfg1.N := afterRegion_arr _ _ launch1.win.arr_inj 1
/-- The second call's argument is the program's. -/
theorem W1_arg1 : W1 m c (Proc.devRef .tc main_arg1) = m (c, Proc.devRef .tc main_arg1) := by
  rw [W1_keep m c _ (by decide)]; rfl

theorem mem_S (r : Ref sig .tc) (h : r.isScoped = false) : Proc.devRef .tc r ∈ S :=
  Finset.mem_filter.mpr ⟨StableHlo.devRef_mem_tcRefs r, by simpa using h⟩

/-- Every weakly fair execution ends, with the result array the third call's output, the arguments as they were, every counter zero. -/
theorem run_result (ρ : Dev nD → PrngReg) :
    θ_run defs (onTc (τ := τ) (main (F := F))) ⟨m, fun _ => 0, ρ⟩ (fun r =>
      (∀ c : Dev nD, r.2.mem ((c.tc : Thread nD τ).loc main_v3) = (R2.dat (W3 m) c).arrAt 2 cfg2.N
        ∧ r.2.mem ((c.tc : Thread nD τ).loc main_arg0) = m ((c.tc : Thread nD τ).loc main_arg0)
        ∧ r.2.mem ((c.tc : Thread nD τ).loc main_arg1) = m ((c.tc : Thread nD τ).loc main_arg1)) ∧ r.2.sem = fun _ => 0) :=
  (θ_run _ _ _).mono (fun _ h => ⟨fun c => ⟨(h.1 c _ (mem_S _ rfl)).trans (W4_v3 m c), (h.1 c _ (mem_S _ rfl)).trans (W4_arg0 m c),
    (h.1 c _ (mem_S _ rfl)).trans (W4_arg1 m c)⟩, h.2⟩) (run m ρ)

end Cert.KernelIdeal.Whole
end
-- ==== Proof.Same.lean ====
module

public import proofs.«01_k».proof.Proof.Gen.KernelIdeal.Launch
public import proofs.«01_k».proof.Proof.Gen.Kernel.Launch

@[expose] public section

/-! The kernel as printed and its idealization are one program over an arbitrary interpretation of the floats. -/

set_option maxRecDepth 65536

noncomputable section

namespace Cert.Same

attribute [local instance] Cert.Kernel.Gen.facts Cert.KernelIdeal.Gen.facts

open Idealize.ShloMosaic Idealize.ShloMosaic.TcCoe Idealize.SL.Sem

variable {F : FTy → Type} [FloatOps F]

/-- The calls' windows and grids. -/
theorem cfg0_eq : @Cert.Kernel.cfg0 _ = @Cert.KernelIdeal.cfg0 _ := rfl
theorem cfg1_eq : @Cert.Kernel.cfg1 _ = @Cert.KernelIdeal.cfg1 _ := rfl
theorem cfg2_eq : @Cert.Kernel.cfg2 _ = @Cert.KernelIdeal.cfg2 _ := rfl
theorem cfgs_eq : @Cert.Kernel.cfgs _ = @Cert.KernelIdeal.cfgs _ :=
  funext fun p => match p with | ⟨0, _⟩ => cfg0_eq | ⟨1, _⟩ => cfg1_eq | ⟨2, _⟩ => cfg2_eq

/-- The bodies. -/
theorem defs₀_eq : @Cert.Kernel.defs₀ F _ _ = @Cert.KernelIdeal.defs₀ F _ _ := by
  unfold Cert.Kernel.defs₀ Cert.KernelIdeal.defs₀
  refine congrArg Defs.onTc (funext fun l => ?_)
  match l with
  | ⟨0, _⟩ => exact funext fun ⟨t, s⟩ => rfl
  | ⟨1, _⟩ => exact funext fun ⟨t, s⟩ => rfl
  | ⟨2, _⟩ => exact funext fun ⟨t, s⟩ => rfl

theorem defs_eq : @Cert.Kernel.defs F _ _ = @Cert.KernelIdeal.defs F _ _ := by
  unfold Cert.Kernel.defs Cert.KernelIdeal.defs
  have := defs₀_eq (F := F)
  rw [this]
  rfl

/-- The host's items. -/
theorem main_eq (c : Dev Cert.KernelIdeal.nD) : Cert.Kernel.main (F := F) c = Cert.KernelIdeal.main (F := F) c := by
  unfold Cert.Kernel.main Cert.KernelIdeal.main
  rfl

/-- A run of the one is a run of the other. -/
theorem θ_eq {s Q} (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  have hm : Cert.Kernel.main (F := F) = Cert.KernelIdeal.main (F := F) := funext main_eq
  have hd := defs_eq (F := F)
  rw [hd, hm]
  exact h

end Cert.Same
end
-- ==== Proof.KernelFrame.lean ====
module

public import proofs.«01_k».proof.Defs
public import proofs.«01_k».proof.Proof.Frames
public import proofs.«01_k».proof.Proof.Same

@[expose] public section

/-! The kernel, over words and over the extended reals, ends with its arguments as they were and every counter zero. -/

noncomputable section

namespace Cert.Proof

open Idealize.ShloMosaic Idealize.SL.Sem

/-- Over the extended reals. -/
theorem frame_ideal : Cert.quiescent_KernelIdeal (hKernelIdeal := Cert.KernelIdeal.Gen.facts) := fun m ρ _ =>
  (θ_run _ _ _).mono (fun _ h => ⟨fun c => (h.1 c).2, h.2⟩) (Cert.KernelIdeal.Whole.run_result (F := Ideal) m ρ)

/-- Over words: the two printed programs are the same text. -/
theorem frame_kernel : Cert.quiescent_Kernel (hKernel := Cert.Kernel.Gen.facts) := fun m ρ _ =>
  Cert.Same.θ_eq ((θ_run _ _ _).mono (fun _ h => ⟨fun c => (h.1 c).2, h.2⟩) (Cert.KernelIdeal.Whole.run_result (F := Bits) m ρ))

end Cert.Proof
end
-- ==== Proof.RefFrame.lean ====
module

public import proofs.«01_k».proof.Defs
public import proofs.«01_k».proof.Proof.Gen.ReferenceIdeal.Run
public import Idealize.ShloMosaic.Lib.Quiescent

@[expose] public section

/-! The reference ends with its arguments as they were. -/

noncomputable section

namespace Cert.Proof

open Idealize.ShloMosaic Idealize.SL.Sem

/-- The reference, a straight line of host operations without semaphores. -/
theorem frame_reference : Cert.quiescent_ReferenceIdeal (hReferenceIdeal := Cert.ReferenceIdeal.Gen.facts) := fun m ρ _ =>
  (θ_run _ _ _).mono (fun _ h => ⟨fun c => ⟨(h c).2.1, (h c).2.2⟩, sem_eq_zero_of_no_sems rfl _⟩) (Cert.ReferenceIdeal.Value.run (F := Ideal) m ρ)

end Cert.Proof
end
-- ==== Proof.Words.lean ====
module

public import Idealize.ShloMosaic.PureOps

@[expose] public section

/-! The Threefry block cipher on words: the random word of one draw, row and column. -/

namespace Cert.Words

/-- A word. -/
abbrev W := BitVec 32

/-- One round: the sum, and the rotated second word against the sum. -/
def round (r r' : W) (s : W × W) : W × W := (s.1 + s.2, ((s.2 <<< r) ||| (s.2 >>> r')) ^^^ (s.1 + s.2))

/-- The four rounds of the even groups. -/
def even (s : W × W) : W × W := round 6#32 26#32 (round 26#32 6#32 (round 15#32 17#32 (round 13#32 19#32 s)))
/-- The four rounds of the odd groups. -/
def odd (s : W × W) : W × W := round 24#32 8#32 (round 16#32 16#32 (round 29#32 3#32 (round 17#32 15#32 s)))
/-- A key injection. -/
def inject (a b : W) (s : W × W) : W × W := (s.1 + a, s.2 + b)

/-- The cipher of the counter `(0, n)` under the key `(k0, k1)`, `k2` its parity word; the two words exclusive-ored. -/
def word (k0 k1 k2 n : W) : W :=
  let s := inject k2 (k0 + 5#32) (even (inject k1 (k2 + 4#32) (odd (inject k0 (k1 + 3#32) (even (inject k2 (k0 + 2#32)
    (odd (inject k1 (k2 + 1#32) (even (inject k0 k1 (0#32, n)))))))))))
  s.1 ^^^ s.2

end Cert.Words
-- ==== Proof.Score.lean ====
module

public import Idealize.ShloMosaic.PureOps.Ideal
public import Mathlib.Analysis.SpecialFunctions.Log.Basic

@[expose] public section

/-! The two scores of a draw at one column: the kernel's `log u · (-1 / x)`, to be minimised, and the
    reference's `log x - log (-log u')`, to be maximised, `u'` the fraction `u` kept off zero. -/

noncomputable section

namespace Cert.Score

open Idealize.ShloMosaic

/-- The fraction of the upper 23 bits of a word. -/
def frac (w : BitVec 32) : EReal := Ideal.ofBits .f32 ((w >>> (9#32)) ||| 0x3F800000#32) - Ideal.ofBits .f32 0x3F800000#32

/-- The fraction's numerator. -/
def num (w : BitVec 32) : ℕ := w.toNat / 512

theorem num_lt (w : BitVec 32) : num w < 2 ^ 23 := by have := w.isLt; unfold num; omega

theorem bits_toNat (w : BitVec 32) : ((w >>> (9#32)) ||| 0x3F800000#32).toNat = 2 ^ 23 * 127 + num w := by
  have h := num_lt w
  rw [Nat.two_pow_add_eq_or_of_lt h]
  simp [BitVec.toNat_or, num, Nat.shiftRight_eq_div_pow, Nat.or_comm]

theorem ieee_normal (b : BitVec 32) (m : ℕ) (e : ℕ) (hm : m < 2 ^ 23) (he : 0 < e) (he' : e < 255) (h : b.toNat = 2 ^ 23 * e + m) :
    Ideal.ofBits .f32 b = ((((2 ^ 23 + m : ℕ) : ℝ) * (2 : ℝ) ^ ((e : ℤ) - 127 - 23) : ℝ) : EReal) := by
  have h1 : (b.extractLsb' (8 + 23) 1 == 1#1) = false := by
    rw [beq_eq_false_iff_ne]; intro hh
    have := congrArg BitVec.toNat hh
    rw [BitVec.extractLsb'_toNat, h, Nat.shiftRight_eq_div_pow] at this
    simp at this; omega
  have h2 : (b.extractLsb' 23 8).toNat = e := by
    rw [BitVec.extractLsb'_toNat, h, Nat.shiftRight_eq_div_pow]; omega
  have h3 : (b.extractLsb' 0 23).toNat = m := by
    rw [BitVec.extractLsb'_toNat, h, Nat.shiftRight_eq_div_pow]; omega
  show Ideal.ieee 8 23 b = _
  unfold Ideal.ieee
  simp only [h1, h2, h3]
  rw [if_neg (by omega), if_neg (by omega)]
  norm_num

theorem one_eq : Ideal.ofBits .f32 0x3F800000#32 = ((1 : ℝ) : EReal) := by
  rw [ieee_normal _ 0 127 (by norm_num) (by norm_num) (by norm_num) (by decide)]; norm_num

theorem frac_eq (w : BitVec 32) : frac w = (((num w : ℝ) / 2 ^ 23 : ℝ) : EReal) := by
  unfold frac
  rw [one_eq, ieee_normal _ (num w) 127 (num_lt w) (by norm_num) (by norm_num) (bits_toNat w), ← EReal.coe_sub]
  congr 1
  push_cast
  norm_num
  ring

theorem tiny_eq : Ideal.ofBits .f32 0x00800000#32 = (((2 : ℝ) ^ (-126 : ℤ) : ℝ) : EReal) := by
  rw [ieee_normal _ 0 1 (by norm_num) (by norm_num) (by norm_num) (by decide)]; congr 1; norm_num

theorem neg_one_eq : Ideal.ofBits .f32 0xBF800000#32 = ((-1 : ℝ) : EReal) := by
  show Ideal.ieee 8 23 (0xBF800000#32 : BitVec 32) = _
  unfold Ideal.ieee
  have h1 : ((0xBF800000#32 : BitVec 32).extractLsb' (8 + 23) 1 == 1#1) = true := by decide
  have h2 : ((0xBF800000#32 : BitVec 32).extractLsb' 23 8).toNat = 127 := by decide
  have h3 : ((0xBF800000#32 : BitVec 32).extractLsb' 0 23).toNat = 0 := by decide
  simp only [h1, h2, h3]
  norm_num

/-- The kernel's score. -/
def kern (w : BitVec 32) (x : EReal) : EReal := Ideal.log (frac w) * Ideal.div (Ideal.ofBits .f32 0xBF800000#32) x

/-- The reference's score. -/
def refr (w : BitVec 32) (x : EReal) : EReal :=
  Ideal.log x - Ideal.log (-Ideal.log (max (frac w) (Ideal.ofBits .f32 0x00800000#32)))

/-- `-log` of the fraction kept off zero. -/
def lg (w : BitVec 32) : ℝ := -Real.log (max ((num w : ℝ) / 2 ^ 23) ((2 : ℝ) ^ (-126 : ℤ)))

theorem lg_pos (w : BitVec 32) : 0 < lg w := by
  unfold lg
  have h : ((num w : ℝ) / 2 ^ 23) < 1 := by
    rw [div_lt_one (by positivity)]; exact_mod_cast num_lt w
  have := Real.log_neg (x := max ((num w : ℝ) / 2 ^ 23) ((2 : ℝ) ^ (-126 : ℤ)))
    (lt_max_of_lt_right (by positivity)) (max_lt h (by norm_num))
  linarith

theorem lg_zero (w : BitVec 32) (h : num w = 0) : lg w = 126 * Real.log 2 := by
  unfold lg; rw [h, max_eq_right (by simp), Real.log_zpow]; push_cast; ring

theorem frac_ge (w : BitVec 32) (h : num w ≠ 0) : (2 : ℝ) ^ (-23 : ℤ) ≤ (num w : ℝ) / 2 ^ 23 := by
  have : (1 : ℝ) ≤ num w := by exact_mod_cast Nat.one_le_iff_ne_zero.mpr h
  rw [zpow_neg, le_div_iff₀ (by positivity)]; norm_num; exact Nat.one_le_iff_ne_zero.mpr h

theorem max_frac (w : BitVec 32) (h : num w ≠ 0) :
    max ((num w : ℝ) / 2 ^ 23) ((2 : ℝ) ^ (-126 : ℤ)) = (num w : ℝ) / 2 ^ 23 :=
  max_eq_left (le_trans (by norm_num) (frac_ge w h))

theorem lg_le (w : BitVec 32) (h : num w ≠ 0) : lg w ≤ 23 * Real.log 2 := by
  unfold lg; rw [max_frac w h]
  have := Real.log_le_log (by positivity) (frac_ge w h)
  rw [Real.log_zpow] at this; push_cast at this; linarith

/-- The time of a column: `-log u' / x`, the quantity both scores order by. -/
def time (w : BitVec 32) (x : EReal) : EReal := if x = ⊤ then 0 else if x = 0 then ⊤ else ((lg w / x.toReal : ℝ) : EReal)

theorem time_nonneg (w : BitVec 32) (x : EReal) (hx : 0 ≤ x) : 0 ≤ time w x := by
  unfold time; split_ifs
  · exact le_refl _
  · exact le_top
  · exact_mod_cast div_nonneg (lg_pos w).le (EReal.toReal_nonneg hx)

theorem log_max (w : BitVec 32) :
    -Ideal.log (max (frac w) (Ideal.ofBits .f32 0x00800000#32)) = ((lg w : ℝ) : EReal) := by
  rw [frac_eq, tiny_eq]
  have h : max (((num w : ℝ) / 2 ^ 23 : ℝ) : EReal) (((2 : ℝ) ^ (-126 : ℤ) : ℝ) : EReal)
    = ((max ((num w : ℝ) / 2 ^ 23) ((2 : ℝ) ^ (-126 : ℤ)) : ℝ) : EReal) := (EReal.coe_strictMono.monotone.map_max).symm
  rw [h]
  have hp : 0 < max ((num w : ℝ) / 2 ^ 23) ((2 : ℝ) ^ (-126 : ℤ)) := lt_max_of_lt_right (by positivity)
  rw [Ideal.log_coe, if_neg (not_le.mpr hp), ← EReal.coe_neg]; rfl

theorem log_coe_pos (r : ℝ) (h : 0 < r) : Ideal.log (r : EReal) = (Real.log r : EReal) := by
  rw [Ideal.log_coe, if_neg (not_le.mpr h)]

theorem refr_eq (w : BitVec 32) (x : EReal) (hx : 0 ≤ x) : refr w x = -Ideal.log (time w x) := by
  unfold refr; rw [log_max, log_coe_pos _ (lg_pos w)]; unfold time
  induction x using EReal.rec with
  | bot => simp at hx
  | top =>
    rw [if_pos rfl]
    have h0 : Ideal.log (0 : EReal) = ⊥ := by
      show Ideal.log ((0 : ℝ) : EReal) = ⊥
      rw [Ideal.log_coe, if_pos le_rfl]
    rw [h0, Ideal.log_top]; rfl
  | coe r =>
    rw [if_neg (EReal.coe_ne_top r)]
    have hr : 0 ≤ r := by exact_mod_cast hx
    rcases hr.eq_or_lt with h | h
    · subst h
      rw [if_pos (by simp), Ideal.log_coe, if_pos le_rfl, Ideal.log_top]; rfl
    · rw [if_neg (by exact_mod_cast h.ne'), EReal.toReal_coe, log_coe_pos _ h, log_coe_pos _ (div_pos (lg_pos w) h),
        Real.log_div (lg_pos w).ne' h.ne', ← EReal.coe_sub, ← EReal.coe_neg]
      congr 1; ring

theorem log_lt (a b : EReal) (ha : 0 ≤ a) (h : a < b) : Ideal.log a < Ideal.log b := by
  induction a using EReal.rec with
  | bot => simp at ha
  | top => simp at h
  | coe r =>
    have hr : 0 ≤ r := by exact_mod_cast ha
    induction b using EReal.rec with
    | bot => simp at h
    | top =>
      rw [Ideal.log_top, Ideal.log_coe]; split_ifs
      · exact bot_lt_top
      · exact EReal.coe_lt_top _
    | coe q =>
      have hq : r < q := by exact_mod_cast h
      rw [log_coe_pos q (hr.trans_lt hq)]
      rcases hr.eq_or_lt with h' | h'
      · subst h'; rw [Ideal.log_coe, if_pos le_rfl]; exact EReal.bot_lt_coe _
      · rw [log_coe_pos r h']; exact_mod_cast Real.log_lt_log h' hq

theorem log_le_iff (a b : EReal) (ha : 0 ≤ a) (hb : 0 ≤ b) : Ideal.log a ≤ Ideal.log b ↔ a ≤ b := by
  constructor
  · intro h; by_contra hc; exact absurd (log_lt b a hb (not_le.mp hc)) (not_lt.mpr h)
  · intro h; rcases h.eq_or_lt with h | h
    · rw [h]
    · exact (log_lt a b ha h).le

theorem refr_le_iff (w w' : BitVec 32) (x x' : EReal) (hx : 0 ≤ x) (hx' : 0 ≤ x') :
    refr w x ≤ refr w' x' ↔ time w' x' ≤ time w x := by
  rw [refr_eq w x hx, refr_eq w' x' hx', EReal.neg_le_neg_iff, log_le_iff _ _ (time_nonneg _ _ hx') (time_nonneg _ _ hx)]

theorem div_neg_one_pos (r : ℝ) (h : 0 < r) : Ideal.div (Ideal.ofBits .f32 0xBF800000#32) (r : EReal) = ((-1 / r : ℝ) : EReal) := by
  rw [neg_one_eq]; unfold Ideal.div
  rw [if_neg (by exact_mod_cast h.ne'), ← EReal.coe_inv, ← EReal.coe_mul]; rfl

theorem div_neg_one_zero : Ideal.div (Ideal.ofBits .f32 0xBF800000#32) 0 = ⊥ := by
  rw [neg_one_eq]; unfold Ideal.div
  rw [if_pos rfl, if_neg]; rw [not_lt]; exact_mod_cast (by norm_num : (-1 : ℝ) ≤ 0)

theorem div_neg_one_top : Ideal.div (Ideal.ofBits .f32 0xBF800000#32) ⊤ = 0 := by
  unfold Ideal.div; rw [if_neg (by simp)]; simp

theorem log_frac_zero (w : BitVec 32) (h : num w = 0) : Ideal.log (frac w) = ⊥ := by
  rw [frac_eq, h, Ideal.log_coe, if_pos (by simp)]

theorem log_frac (w : BitVec 32) (h : num w ≠ 0) : Ideal.log (frac w) = ((-lg w : ℝ) : EReal) := by
  have hp : (0 : ℝ) < (num w : ℝ) / 2 ^ 23 := lt_of_lt_of_le (by positivity) (frac_ge w h)
  rw [frac_eq, log_coe_pos _ hp]; unfold lg; rw [max_frac w h, neg_neg]

/-- Off a vanishing fraction the kernel's score is the time. -/
theorem kern_eq (w : BitVec 32) (x : EReal) (hx : 0 ≤ x) (h : num w ≠ 0 ∨ x = 0 ∨ x = ⊤) : kern w x = time w x := by
  unfold kern time
  induction x using EReal.rec with
  | bot => simp at hx
  | top => rw [if_pos rfl, div_neg_one_top, mul_zero]
  | coe r =>
    rw [if_neg (EReal.coe_ne_top r)]
    have hr : 0 ≤ r := by exact_mod_cast hx
    rcases hr.eq_or_lt with h' | h'
    · subst h'
      rw [if_pos (by simp)]
      show Ideal.log (frac w) * Ideal.div _ (0 : EReal) = ⊤
      rw [div_neg_one_zero]
      by_cases hn : num w = 0
      · rw [log_frac_zero w hn]; rfl
      · rw [log_frac w hn]; exact EReal.coe_mul_bot_of_neg (by have := lg_pos w; linarith)
    · have hn : num w ≠ 0 := by
        rcases h with h | h | h
        · exact h
        · exact absurd h (by exact_mod_cast h'.ne')
        · exact absurd h (EReal.coe_ne_top r)
      rw [if_neg (by exact_mod_cast h'.ne'), EReal.toReal_coe, log_frac w hn, div_neg_one_pos r h', ← EReal.coe_mul]
      congr 1; ring

/-- At a vanishing fraction it is infinite. -/
theorem kern_top (w : BitVec 32) (x : EReal) (hx : 0 ≤ x) (hw : num w = 0) (h : x ≠ ⊤) : kern w x = ⊤ := by
  by_cases h0 : x = 0
  · rw [kern_eq w x hx (Or.inr (Or.inl h0))]; unfold time; rw [if_neg h, if_pos h0]
  · unfold kern
    induction x using EReal.rec with
    | bot => simp at hx
    | top => exact absurd rfl h
    | coe r =>
      have hr : 0 < r := lt_of_le_of_ne (by exact_mod_cast hx) (fun e => h0 (by rw [← e]; rfl))
      rw [log_frac_zero w hw, div_neg_one_pos r hr]
      exact EReal.bot_mul_coe_of_neg (div_neg_of_neg_of_pos (by norm_num) hr)

theorem time_le_kern (w : BitVec 32) (x : EReal) (hx : 0 ≤ x) : time w x ≤ kern w x := by
  by_cases h : num w = 0 ∧ x ≠ ⊤
  · rw [kern_top w x hx h.1 h.2]; exact le_top
  · rw [kern_eq w x hx]
    by_cases h0 : num w = 0
    · exact Or.inr (Or.inr (not_not.mp fun hh => h ⟨h0, hh⟩))
    · exact Or.inl h0

/-- A column whose fraction vanishes is later than one of at least a fifth of its weight whose fraction does not. -/
theorem time_lt (w w' : BitVec 32) (x x' : EReal) (hx : 0 ≤ x) (hx' : 0 ≤ x') (hw : num w = 0) (hw' : num w' ≠ 0)
    (h0 : x ≠ 0) (ht : x ≠ ⊤) (h5 : x ≤ 5 * x') : time w' x' < time w x := by
  unfold time
  rw [if_neg ht, if_neg h0, lg_zero w hw]
  induction x using EReal.rec with
  | bot => simp at hx
  | top => exact absurd rfl ht
  | coe r =>
    have hr : 0 < r := lt_of_le_of_ne (by exact_mod_cast hx) (fun e => h0 (by rw [← e]; rfl))
    have hl : 0 < Real.log 2 := Real.log_pos (by norm_num)
    rw [EReal.toReal_coe]
    induction x' using EReal.rec with
    | bot => simp at hx'
    | top => rw [if_pos rfl]; exact_mod_cast div_pos (by positivity) hr
    | coe q =>
      have h5' : r ≤ 5 * q := by
        have e : (5 : EReal) * (q : EReal) = ((5 * q : ℝ) : EReal) := by rw [EReal.coe_mul]; rfl
        rw [e] at h5; exact_mod_cast h5
      have hq : 0 < q := by linarith
      rw [if_neg (EReal.coe_ne_top q), if_neg (by exact_mod_cast hq.ne'), EReal.toReal_coe]
      have : lg w' / q < 126 * Real.log 2 / r := by
        rw [div_lt_div_iff₀ hq hr]
        have := lg_le w' hw'
        have h1 : lg w' * r ≤ 23 * Real.log 2 * r := mul_le_mul_of_nonneg_right this hr.le
        have h2 : Real.log 2 * r ≤ Real.log 2 * (5 * q) := mul_le_mul_of_nonneg_left h5' hl.le
        have h3 : 0 < Real.log 2 * q := mul_pos hl hq
        nlinarith
      exact_mod_cast this

/-- `i` is the first place of `T`'s least value. -/
def FirstMin {n : ℕ} (T : Fin n → EReal) (i : Fin n) : Prop := (∀ j, T i ≤ T j) ∧ ∀ j, j < i → T i < T j

theorem FirstMin.unique {n : ℕ} {T : Fin n → EReal} {i i' : Fin n} (h : FirstMin T i) (h' : FirstMin T i') : i = i' := by
  rcases lt_trichotomy i i' with hl | hl | hl
  · exact absurd (h'.2 i hl) (not_lt.mpr (h.1 i'))
  · exact hl
  · exact absurd (h.2 i' hl) (not_lt.mpr (h'.1 i))

/-- The first column of the reference's largest score is the first of the kernel's smallest. -/
theorem firstMin_kern {n : ℕ} (w : Fin n → BitVec 32) (x : Fin n → EReal) (hx : ∀ i, 0 ≤ x i)
    (h5 : ∀ i, ∃ v, num (w v) ≠ 0 ∧ x i ≤ 5 * x v) (i : Fin n)
    (hmax : ∀ j, refr (w j) (x j) ≤ refr (w i) (x i)) (hfirst : ∀ j, j < i → refr (w j) (x j) < refr (w i) (x i)) :
    FirstMin (fun j => kern (w j) (x j)) i := by
  have hle : ∀ j, time (w i) (x i) ≤ time (w j) (x j) := fun j => (refr_le_iff _ _ _ _ (hx j) (hx i)).mp (hmax j)
  have hlt : ∀ j, j < i → time (w i) (x i) < time (w j) (x j) := fun j hj =>
    not_le.mp fun hc => not_le.mpr (hfirst j hj) ((refr_le_iff _ _ _ _ (hx i) (hx j)).mpr hc)
  have hi : kern (w i) (x i) = time (w i) (x i) := by
    refine kern_eq _ _ (hx i) ?_
    by_contra hc
    push Not at hc
    obtain ⟨v, hv, h⟩ := h5 i
    exact absurd (time_lt (w i) (w v) (x i) (x v) (hx i) (hx v) hc.1 hv hc.2.1 hc.2.2 h) (not_lt.mpr (hle v))
  refine ⟨fun j => ?_, fun j hj => ?_⟩
  · show kern (w i) (x i) ≤ kern (w j) (x j)
    rw [hi]; exact (hle j).trans (time_le_kern _ _ (hx j))
  · show kern (w i) (x i) < kern (w j) (x j)
    rw [hi]; exact (hlt j hj).trans_le (time_le_kern _ _ (hx j))

end Cert.Score

end
-- ==== Proof.Bits.lean ====
module

public import proofs.«01_k».proof.Proof.Block
public import proofs.«01_k».proof.Proof.Words
public import proofs.«01_k».proof.Proof.Score
public import Idealize.ShloMosaic.PureOps.Ideal.Laws

@[expose] public section

/-! A lane of the kernel's cipher is the cipher of the lane's counter word, and a lane of a draw's values the kernel's
    score of that word at the lane's column. -/

set_option maxRecDepth 16384

noncomputable section

namespace Cert.KernelIdeal.Body

open Idealize.ShloMosaic Cert.KernelIdeal Cert.KernelIdeal.Gen Cert.Words

/-- Two blocks hold a pair of words at a lane. -/
def Rep (A B : IVec S8x2048 32) (j : S8x2048.Idx) (s : W × W) : Prop := A j = s.1 ∧ B j = s.2

/-- A round at a lane. -/
theorem Rep.round {A B A' B' : IVec S8x2048 32} {j : S8x2048.Idx} {s : W × W} (h : Rep A B j s) (r r' : W) (hr : r.toNat < 32) (hr' : r'.toNat < 32)
    (hA' : A' = addi A B) (hB' : B' = xori (rot B r r') A') : Rep A' B' j (Words.round r r' s) := by
  obtain ⟨hA, hB⟩ := h
  have e1 : A' j = s.1 + s.2 := by
    rw [hA']; show A j + B j = _
    rw [hA, hB]
  refine ⟨e1, ?_⟩
  have e2 : IntOp.shli .vector (B j) r = B j <<< r := if_pos hr
  have e3 : IntOp.shrui .vector (B j) r' = B j >>> r' := if_pos hr'
  rw [hB']
  show (IntOp.shli .vector (B j) r ||| IntOp.shrui .vector (B j) r') ^^^ A' j = _
  rw [e1, e2, e3, hB]
  rfl

/-- A key injection at a lane. -/
theorem Rep.inject {A B A' B' : IVec S8x2048 32} {j : S8x2048.Idx} {s : W × W} (h : Rep A B j s) (a b : W)
    (hA' : A' = addi A (bc a)) (hB' : B' = addi B (bc b)) : Rep A' B' j (Words.inject a b s) := by
  obtain ⟨hA, hB⟩ := h
  constructor
  · rw [hA']; show A j + a = _
    rw [hA]; rfl
  · rw [hB']; show B j + b = _
    rw [hB]; rfl

/-- The first round's sum is taken the other way round. -/
theorem Rep.first {x1 A' B' : IVec S8x2048 32} {j : S8x2048.Idx} {k0 k1 n : W} (h : x1 j = n + k1)
    (hA' : A' = addi x1 (bc k0)) (hB' : B' = xori (rot x1 13#32 19#32) A') :
    Rep A' B' j (Words.round 13#32 19#32 (Words.inject k0 k1 (0#32, n))) := by
  refine Rep.round (A := bc (0#32 + k0)) (B := x1) ⟨rfl, h⟩ 13#32 19#32 (by decide) (by decide) ?_ hB'
  rw [hA']; funext l
  show x1 l + k0 = (0#32 + k0) + x1 l
  rw [BitVec.zero_add, BitVec.add_comm]

/-- The four rounds of an even group at a lane. -/
theorem Rep.even {A B : IVec S8x2048 32} {j : S8x2048.Idx} {s : W × W} (h : Rep A B j s) {a0 b0 a1 b1 a2 b2 a3 b3 : IVec S8x2048 32}
    (ha0 : a0 = addi A B) (hb0 : b0 = xori (rot B 13#32 19#32) a0)
    (ha1 : a1 = addi a0 b0) (hb1 : b1 = xori (rot b0 15#32 17#32) a1)
    (ha2 : a2 = addi a1 b1) (hb2 : b2 = xori (rot b1 26#32 6#32) a2)
    (ha3 : a3 = addi a2 b2) (hb3 : b3 = xori (rot b2 6#32 26#32) a3)
    : Rep a3 b3 j (Words.even s) :=
  (((h.round 13#32 19#32 (by decide) (by decide) ha0 hb0).round 15#32 17#32 (by decide) (by decide) ha1 hb1).round 26#32 6#32 (by decide) (by decide) ha2 hb2).round 6#32 26#32 (by decide) (by decide) ha3 hb3

/-- The four rounds of an odd group at a lane. -/
theorem Rep.odd {A B : IVec S8x2048 32} {j : S8x2048.Idx} {s : W × W} (h : Rep A B j s) {a0 b0 a1 b1 a2 b2 a3 b3 : IVec S8x2048 32}
    (ha0 : a0 = addi A B) (hb0 : b0 = xori (rot B 17#32 15#32) a0)
    (ha1 : a1 = addi a0 b0) (hb1 : b1 = xori (rot b0 29#32 3#32) a1)
    (ha2 : a2 = addi a1 b1) (hb2 : b2 = xori (rot b1 16#32 16#32) a2)
    (ha3 : a3 = addi a2 b2) (hb3 : b3 = xori (rot b2 24#32 8#32) a3)
    : Rep a3 b3 j (Words.odd s) :=
  (((h.round 17#32 15#32 (by decide) (by decide) ha0 hb0).round 29#32 3#32 (by decide) (by decide) ha1 hb1).round 16#32 16#32 (by decide) (by decide) ha2 hb2).round 24#32 8#32 (by decide) (by decide) ha3 hb3

/-- The first group at a lane. -/
theorem Rep.even0 {x1 : IVec S8x2048 32} {j : S8x2048.Idx} {k0 k1 n : W} (h : x1 j = n + k1) {a0 b0 a1 b1 a2 b2 a3 b3 : IVec S8x2048 32}
    (ha0 : a0 = addi x1 (bc k0)) (hb0 : b0 = xori (rot x1 13#32 19#32) a0)
    (ha1 : a1 = addi a0 b0) (hb1 : b1 = xori (rot b0 15#32 17#32) a1)
    (ha2 : a2 = addi a1 b1) (hb2 : b2 = xori (rot b1 26#32 6#32) a2)
    (ha3 : a3 = addi a2 b2) (hb3 : b3 = xori (rot b2 6#32 26#32) a3)
    : Rep a3 b3 j (Words.even (Words.inject k0 k1 (0#32, n))) :=
  (((Rep.first h ha0 hb0).round 15#32 17#32 (by decide) (by decide) ha1 hb1).round 26#32 6#32 (by decide) (by decide) ha2 hb2).round 6#32 26#32 (by decide) (by decide) ha3 hb3

/-- What holds of any blocks that satisfy the cipher's equations holds of the cipher's result. -/
theorem bits_ind (k0 k1 k2 : W) (x1 : IVec S8x2048 32) (P : IVec S8x2048 32 → Prop)
    (h : ∀ a0 b0 a1 b1 a2 b2 a3 b3 c0 d0 a4 b4 a5 b5 a6 b6 a7 b7 c1 d1 a8 b8 a9 b9 a10 b10 a11 b11 c2 d2 a12 b12 a13 b13 a14 b14 a15 b15 c3 d3 a16 b16 a17 b17 a18 b18 a19 b19 e0 e1 : IVec S8x2048 32,
      a0 = addi x1 (bc k0) →
      b0 = xori (rot x1 13#32 19#32) a0 →
      a1 = addi a0 b0 →
      b1 = xori (rot b0 15#32 17#32) a1 →
      a2 = addi a1 b1 →
      b2 = xori (rot b1 26#32 6#32) a2 →
      a3 = addi a2 b2 →
      b3 = xori (rot b2 6#32 26#32) a3 →
      c0 = addi a3 (bc k1) →
      d0 = addi b3 (bc (k2 + 1#32)) →
      a4 = addi c0 d0 →
      b4 = xori (rot d0 17#32 15#32) a4 →
      a5 = addi a4 b4 →
      b5 = xori (rot b4 29#32 3#32) a5 →
      a6 = addi a5 b5 →
      b6 = xori (rot b5 16#32 16#32) a6 →
      a7 = addi a6 b6 →
      b7 = xori (rot b6 24#32 8#32) a7 →
      c1 = addi a7 (bc k2) →
      d1 = addi b7 (bc (k0 + 2#32)) →
      a8 = addi c1 d1 →
      b8 = xori (rot d1 13#32 19#32) a8 →
      a9 = addi a8 b8 →
      b9 = xori (rot b8 15#32 17#32) a9 →
      a10 = addi a9 b9 →
      b10 = xori (rot b9 26#32 6#32) a10 →
      a11 = addi a10 b10 →
      b11 = xori (rot b10 6#32 26#32) a11 →
      c2 = addi a11 (bc k0) →
      d2 = addi b11 (bc (k1 + 3#32)) →
      a12 = addi c2 d2 →
      b12 = xori (rot d2 17#32 15#32) a12 →
      a13 = addi a12 b12 →
      b13 = xori (rot b12 29#32 3#32) a13 →
      a14 = addi a13 b13 →
      b14 = xori (rot b13 16#32 16#32) a14 →
      a15 = addi a14 b14 →
      b15 = xori (rot b14 24#32 8#32) a15 →
      c3 = addi a15 (bc k1) →
      d3 = addi b15 (bc (k2 + 4#32)) →
      a16 = addi c3 d3 →
      b16 = xori (rot d3 13#32 19#32) a16 →
      a17 = addi a16 b16 →
      b17 = xori (rot b16 15#32 17#32) a17 →
      a18 = addi a17 b17 →
      b18 = xori (rot b17 26#32 6#32) a18 →
      a19 = addi a18 b18 →
      b19 = xori (rot b18 6#32 26#32) a19 →
      e0 = addi a19 (bc k2) →
      e1 = addi b19 (bc (k0 + 5#32)) →
      P (xori e0 e1)) : P (bits k0 k1 k2 x1) :=
  let a0 := addi x1 (bc k0)
  let b0 := xori (rot x1 13#32 19#32) a0
  let a1 := addi a0 b0
  let b1 := xori (rot b0 15#32 17#32) a1
  let a2 := addi a1 b1
  let b2 := xori (rot b1 26#32 6#32) a2
  let a3 := addi a2 b2
  let b3 := xori (rot b2 6#32 26#32) a3
  let c0 := addi a3 (bc k1)
  let d0 := addi b3 (bc (k2 + 1#32))
  let a4 := addi c0 d0
  let b4 := xori (rot d0 17#32 15#32) a4
  let a5 := addi a4 b4
  let b5 := xori (rot b4 29#32 3#32) a5
  let a6 := addi a5 b5
  let b6 := xori (rot b5 16#32 16#32) a6
  let a7 := addi a6 b6
  let b7 := xori (rot b6 24#32 8#32) a7
  let c1 := addi a7 (bc k2)
  let d1 := addi b7 (bc (k0 + 2#32))
  let a8 := addi c1 d1
  let b8 := xori (rot d1 13#32 19#32) a8
  let a9 := addi a8 b8
  let b9 := xori (rot b8 15#32 17#32) a9
  let a10 := addi a9 b9
  let b10 := xori (rot b9 26#32 6#32) a10
  let a11 := addi a10 b10
  let b11 := xori (rot b10 6#32 26#32) a11
  let c2 := addi a11 (bc k0)
  let d2 := addi b11 (bc (k1 + 3#32))
  let a12 := addi c2 d2
  let b12 := xori (rot d2 17#32 15#32) a12
  let a13 := addi a12 b12
  let b13 := xori (rot b12 29#32 3#32) a13
  let a14 := addi a13 b13
  let b14 := xori (rot b13 16#32 16#32) a14
  let a15 := addi a14 b14
  let b15 := xori (rot b14 24#32 8#32) a15
  let c3 := addi a15 (bc k1)
  let d3 := addi b15 (bc (k2 + 4#32))
  let a16 := addi c3 d3
  let b16 := xori (rot d3 13#32 19#32) a16
  let a17 := addi a16 b16
  let b17 := xori (rot b16 15#32 17#32) a17
  let a18 := addi a17 b17
  let b18 := xori (rot b17 26#32 6#32) a18
  let a19 := addi a18 b18
  let b19 := xori (rot b18 6#32 26#32) a19
  let e0 := addi a19 (bc k2)
  let e1 := addi b19 (bc (k0 + 5#32))
  h a0 b0 a1 b1 a2 b2 a3 b3 c0 d0 a4 b4 a5 b5 a6 b6 a7 b7 c1 d1 a8 b8 a9 b9 a10 b10 a11 b11 c2 d2 a12 b12 a13 b13 a14 b14 a15 b15 c3 d3 a16 b16 a17 b17 a18 b18 a19 b19 e0 e1 rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl rfl

/-- The cipher at a lane. -/
theorem bits_apply (k0 k1 k2 n : W) (x1 : IVec S8x2048 32) (j : S8x2048.Idx) (h : x1 j = n + k1) :
    bits k0 k1 k2 x1 j = word k0 k1 k2 n := by
  refine bits_ind k0 k1 k2 x1 (fun b => b j = word k0 k1 k2 n) ?_
  intro a0 b0 a1 b1 a2 b2 a3 b3 c0 d0 a4 b4 a5 b5 a6 b6 a7 b7 c1 d1 a8 b8 a9 b9 a10 b10 a11 b11 c2 d2 a12 b12 a13 b13 a14 b14 a15 b15 c3 d3 a16 b16 a17 b17 a18 b18 a19 b19 e0 e1 ha0 hb0 ha1 hb1 ha2 hb2 ha3 hb3 hc0 hd0 ha4 hb4 ha5 hb5 ha6 hb6 ha7 hb7 hc1 hd1 ha8 hb8 ha9 hb9 ha10 hb10 ha11 hb11 hc2 hd2 ha12 hb12 ha13 hb13 ha14 hb14 ha15 hb15 hc3 hd3 ha16 hb16 ha17 hb17 ha18 hb18 ha19 hb19 he0 he1
  have g0 := Rep.even0 (k0 := k0) h ha0 hb0 ha1 hb1 ha2 hb2 ha3 hb3
  have i1 := g0.inject k1 (k2 + 1#32) hc0 hd0
  have g1 := i1.odd ha4 hb4 ha5 hb5 ha6 hb6 ha7 hb7
  have i2 := g1.inject k2 (k0 + 2#32) hc1 hd1
  have g2 := i2.even ha8 hb8 ha9 hb9 ha10 hb10 ha11 hb11
  have i3 := g2.inject k0 (k1 + 3#32) hc2 hd2
  have g3 := i3.odd ha12 hb12 ha13 hb13 ha14 hb14 ha15 hb15
  have i4 := g3.inject k1 (k2 + 4#32) hc3 hd3
  have g4 := i4.even ha16 hb16 ha17 hb17 ha18 hb18 ha19 hb19
  have i5 := g4.inject k2 (k0 + 5#32) he0 he1
  have e : xori e0 e1 j = e0 j ^^^ e1 j := rfl
  rw [e, i5.1, i5.2]
  unfold word
  rfl

end Cert.KernelIdeal.Body
end
-- ==== Proof.Argmin.lean ====
module

public import Idealize.ShloMosaic.PureOps.Reduce
public import Idealize.ShloMosaic.PureOps.Ideal.Laws

@[expose] public section

/-! The first column of the least value, found lane by lane: each lane keeps the first of its columns that improves on
    what it holds, and the end takes the smallest column among the lanes that hold the least. -/

noncomputable section

namespace Cert.Argmin

open Idealize.ShloMosaic

/-- After `p` blocks lane `l` holds the least `v` of its columns, and the first column `i` that has it. -/
def LaneInv (T : ℕ → EReal) (l p : ℕ) (v : EReal) (i : BitVec 32) : Prop :=
  (v = ⊤ ∧ i = 0#32 ∧ ∀ j, j < p → T (j * 2048 + l) = ⊤) ∨
  (∃ j, j < p ∧ i = BitVec.ofNat 32 (j * 2048 + l) ∧ v = T (j * 2048 + l) ∧ v < ⊤ ∧ (∀ j', j' < p → v ≤ T (j' * 2048 + l))
    ∧ ∀ j', j' < j → v < T (j' * 2048 + l))

theorem LaneInv.init (T : ℕ → EReal) (l : ℕ) : LaneInv T l 0 ⊤ 0#32 := Or.inl ⟨rfl, rfl, fun _ h => absurd h (Nat.not_lt_zero _)⟩

theorem LaneInv.step {T : ℕ → EReal} {l p : ℕ} {v : EReal} {i : BitVec 32} (h : LaneInv T l p v i) :
    LaneInv T l (p + 1) (if T (p * 2048 + l) < v then T (p * 2048 + l) else v)
      (if T (p * 2048 + l) < v then BitVec.ofNat 32 (p * 2048 + l) else i) := by
  by_cases hlt : T (p * 2048 + l) < v
  · rw [if_pos hlt, if_pos hlt]
    have hall : ∀ j, j < p → v ≤ T (j * 2048 + l) := by
      rcases h with ⟨hv, -, hT⟩ | ⟨_, _, _, _, _, hT, _⟩
      · intro j hj; rw [hT j hj]; exact le_top
      · exact hT
    refine Or.inr ⟨p, Nat.lt_succ_self p, rfl, rfl, hlt.trans_le le_top, fun j' hj' => ?_, fun j' hj' => hlt.trans_le (hall j' hj')⟩
    rcases Nat.lt_succ_iff_lt_or_eq.mp hj' with h' | h'
    · exact hlt.le.trans (hall j' h')
    · rw [h']
  · rw [if_neg hlt, if_neg hlt]
    have hle := not_lt.mp hlt
    rcases h with ⟨hv, hi, hT⟩ | ⟨j, hj, hi, hv, hv', hT, hT'⟩
    · refine Or.inl ⟨hv, hi, fun j hj => ?_⟩
      rcases Nat.lt_succ_iff_lt_or_eq.mp hj with h' | h'
      · exact hT j h'
      · rw [h']; rw [hv] at hle; exact top_le_iff.mp hle
    · refine Or.inr ⟨j, Nat.lt_succ_of_lt hj, hi, hv, hv', fun j' hj' => ?_, hT'⟩
      rcases Nat.lt_succ_iff_lt_or_eq.mp hj' with h' | h'
      · exact hT j' h'
      · rw [h']; exact hle

/-- A signed minimum of words below `2^31`. -/
theorem fold_minsi {ι : Type*} [DecidableEq ι] (s : Finset ι) (f : ι → BitVec 32) (hf : ∀ l, (f l).toNat < 2 ^ 31) :
    (s.fold IntOp.minsi 2147483647#32 f = 2147483647#32 ∨ ∃ l ∈ s, s.fold IntOp.minsi 2147483647#32 f = f l)
    ∧ (s.fold IntOp.minsi 2147483647#32 f).toNat ≤ 2147483647
    ∧ ∀ l ∈ s, (s.fold IntOp.minsi 2147483647#32 f).toNat ≤ (f l).toNat := by
  induction s using Finset.induction_on with
  | empty => exact ⟨Or.inl rfl, le_refl _, fun l h => absurd h (Finset.notMem_empty l)⟩
  | insert a s ha ih =>
    rw [Finset.fold_insert ha]
    set r := s.fold IntOp.minsi 2147483647#32 f with hr
    obtain ⟨h1, h2, h3⟩ := ih
    have hc : (IntOp.minsi (f a) r = f a ∧ (f a).toNat ≤ r.toNat) ∨ (IntOp.minsi (f a) r = r ∧ r.toNat ≤ (f a).toNat) := by
      have ia : (f a).toInt = (f a).toNat := BitVec.toInt_eq_toNat_of_lt (by have := hf a; omega)
      have ir : r.toInt = r.toNat := BitVec.toInt_eq_toNat_of_lt (by omega)
      unfold IntOp.minsi
      split
      · left; rename_i hh; refine ⟨rfl, ?_⟩
        simp only [BitVec.slt_eq_decide, BitVec.sle_eq_decide, decide_eq_true_eq] at hh; omega
      · right; rename_i hh; refine ⟨rfl, ?_⟩
        simp only [BitVec.slt_eq_decide, BitVec.sle_eq_decide, decide_eq_true_eq] at hh; omega
    rcases hc with ⟨e, hle⟩ | ⟨e, hle⟩
    · rw [e]
      refine ⟨Or.inr ⟨a, Finset.mem_insert_self _ _, rfl⟩, by omega, fun l hl => ?_⟩
      rcases Finset.mem_insert.mp hl with h | h
      · rw [h]
      · exact hle.trans (h3 l h)
    · rw [e]
      refine ⟨?_, h2, fun l hl => ?_⟩
      · rcases h1 with h | ⟨l, hl, h⟩
        · exact Or.inl h
        · exact Or.inr ⟨l, Finset.mem_insert_of_mem hl, h⟩
      · rcases Finset.mem_insert.mp hl with h | h
        · rw [h]; exact hle
        · exact h3 l h

/-- A minimum from `⊤` over a nonempty set is one of the values. -/
theorem fold_min {ι : Type*} [DecidableEq ι] (s : Finset ι) (f : ι → EReal) :
    (∀ l ∈ s, s.fold min ⊤ f ≤ f l) ∧ (s.Nonempty → ∃ l ∈ s, f l = s.fold min ⊤ f) := by
  refine ⟨fun l hl => Finset.fold_min_le _ |>.mpr (Or.inr ⟨l, hl, le_refl _⟩), fun hs => ?_⟩
  obtain ⟨l, hl, h⟩ := s.exists_min_image f hs
  exact ⟨l, hl, le_antisymm ((Finset.le_fold_min _).mpr ⟨le_top, h⟩) (Finset.fold_min_le _ |>.mpr (Or.inr ⟨l, hl, le_refl _⟩))⟩

/-- A maximum from `⊥` over a nonempty set is one of the values. -/
theorem fold_max {ι : Type*} [DecidableEq ι] (s : Finset ι) (f : ι → EReal) :
    (∀ l ∈ s, f l ≤ s.fold max ⊥ f) ∧ (s.Nonempty → ∃ l ∈ s, f l = s.fold max ⊥ f) := by
  refine ⟨fun l hl => Finset.le_fold_max _ |>.mpr (Or.inr ⟨l, hl, le_refl _⟩), fun hs => ?_⟩
  obtain ⟨l, hl, h⟩ := s.exists_max_image f hs
  exact ⟨l, hl, le_antisymm (Finset.le_fold_max _ |>.mpr (Or.inr ⟨l, hl, le_refl _⟩)) ((Finset.fold_max_le _).mpr ⟨bot_le, h⟩)⟩

/-- The end of the search. -/
theorem finish (T : ℕ → EReal) (hT : ∀ c, 100000 ≤ c → T c = ⊤) (V : Fin 2048 → EReal) (I : Fin 2048 → BitVec 32)
    (h : ∀ l : Fin 2048, LaneInv T l.val 49 (V l) (I l)) :
    ∃ c, c < 100000 ∧ Finset.univ.fold IntOp.minsi 2147483647#32 (fun l => if V l = Finset.univ.fold min ⊤ V then I l else 2147483647#32) = BitVec.ofNat 32 c
      ∧ (∀ c', c' < 100000 → T c ≤ T c') ∧ ∀ c', c' < c → T c < T c' := by
  classical
  obtain ⟨m1, m2⟩ := fold_min Finset.univ V
  obtain ⟨l0, -, hl0⟩ := m2 ⟨0, Finset.mem_univ _⟩
  set m := Finset.univ.fold min ⊤ V with hm
  have hI : ∀ l, (I l).toNat < 100352 := fun l => by
    rcases h l with ⟨_, e, _⟩ | ⟨j, hj, e, _⟩
    · rw [e]; decide
    · rw [e, BitVec.toNat_ofNat]; have := l.isLt; omega
  obtain ⟨f1, f2, f3⟩ := fold_minsi Finset.univ (fun l => if V l = m then I l else 2147483647#32) (fun l => by
    split
    · have := hI l; omega
    · decide)
  set r := Finset.univ.fold IntOp.minsi 2147483647#32 (fun l => if V l = m then I l else 2147483647#32) with hr
  have hcol : ∀ c', c' < 100352 → ∃ l : Fin 2048, ∃ j, j < 49 ∧ c' = j * 2048 + l.val := fun c' hc' =>
    ⟨⟨c' % 2048, Nat.mod_lt _ (by norm_num)⟩, c' / 2048, by omega, by dsimp only; omega⟩
  have hVT : ∀ c', c' < 100352 → m ≤ T c' := fun c' hc' => by
    obtain ⟨l, j, hj, e⟩ := hcol c' hc'
    refine (m1 l (Finset.mem_univ _)).trans ?_
    rw [e]
    rcases h l with ⟨_, _, hh⟩ | ⟨_, _, _, _, _, hh, _⟩
    · rw [hh j hj]; exact le_top
    · exact hh j hj
  have hr0 : r.toNat ≤ (I l0).toNat := by
    have := f3 l0 (Finset.mem_univ _); rwa [if_pos hl0] at this
  by_cases hmt : m = ⊤
  · have hall : ∀ c', c' < 100352 → T c' = ⊤ := fun c' hc' => top_le_iff.mp (hmt ▸ hVT c' hc')
    have h0 : (I l0).toNat = 0 := by
      rcases h l0 with ⟨_, e, _⟩ | ⟨_, _, _, _, e, _⟩
      · rw [e]; rfl
      · rw [hl0, hmt] at e; exact absurd e (lt_irrefl _)
    refine ⟨0, by norm_num, ?_, fun c' hc' => ?_, fun c' hc' => absurd hc' (Nat.not_lt_zero _)⟩
    · apply BitVec.eq_of_toNat_eq; rw [BitVec.toNat_ofNat]; omega
    · rw [hall c' (by omega)]; exact le_top
  · have hr1 : ∃ l, V l = m ∧ r = I l := by
      have hl := hI l0
      rcases f1 with e | ⟨l, -, e⟩
      · rw [e] at hr0; norm_num at hr0; omega
      · by_cases hV : V l = m
        · exact ⟨l, hV, by rw [e, if_pos hV]⟩
        · rw [if_neg hV] at e; rw [e] at hr0; norm_num at hr0; omega
    obtain ⟨l, hV, hrI⟩ := hr1
    rcases h l with ⟨e, _, _⟩ | ⟨j, hj, hi, hv, hv', hT1, hT2⟩
    · exact absurd (hV ▸ e) hmt
    · have hTc : T (j * 2048 + l.val) = m := by rw [← hv, hV]
      have hc : j * 2048 + l.val < 100000 := by
        by_contra hc; rw [hT _ (not_lt.mp hc)] at hTc; exact hmt hTc.symm
      refine ⟨j * 2048 + l.val, hc, by rw [hrI, hi], fun c' hc' => ?_, fun c' hc' => ?_⟩
      · rw [hTc]; exact hVT c' (by omega)
      · rw [hTc]
        refine lt_of_le_of_ne (hVT c' (by omega)) fun heq => ?_
        obtain ⟨l', j', hj', e⟩ := hcol c' (by omega)
        have hVl : V l' = m := by
          refine le_antisymm ?_ (m1 l' (Finset.mem_univ _))
          rcases h l' with ⟨_, _, hh⟩ | ⟨_, _, _, _, _, hh, _⟩
          · exact absurd ((heq.trans (e ▸ rfl)).trans (hh j' hj')) hmt
          · have := hh j' hj'; rw [← e, ← heq] at this; exact this
        have hrl : r.toNat ≤ (I l').toNat := by
          have := f3 l' (Finset.mem_univ _); rwa [if_pos hVl] at this
        rcases h l' with ⟨e', _, _⟩ | ⟨j2, hj2, hi2, hv2, _, _, hT3⟩
        · exact hmt (hVl ▸ e')
        · have hj2' : j2 ≤ j' := by
            by_contra hc2
            have := hT3 j' (not_le.mp hc2); rw [hVl, ← e, ← heq] at this; exact absurd this (lt_irrefl _)
          rw [hrI, hi, hi2, BitVec.toNat_ofNat, BitVec.toNat_ofNat] at hrl
          have := l.isLt; have := l'.isLt
          omega

end Cert.Argmin

end
-- ==== Proof.Lanes.lean ====
module

public import proofs.«01_k».proof.Proof.Bits
public import proofs.«01_k».proof.Proof.Argmin

@[expose] public section

/-! The scratch of a sampling call: each lane holds the least of the scores of its columns so far, and the first such column. -/

set_option maxRecDepth 16384

noncomputable section

namespace Cert.KernelIdeal.Body

open Idealize.ShloMosaic Idealize.ShloMosaic.ValueIdx Cert.KernelIdeal Cert.KernelIdeal.Gen Cert.Words Cert.Argmin

variable (k0 k1 k2 : W) (A : S128x100000.Idx → EReal)

/-- The score of draw `kk` of row `b` at column `c`; infinite past the last column. -/
def T (b : Fin 128) (kk : ℕ) (c : ℕ) : EReal :=
  if h : c < 100000 then Score.kern (word k0 k1 k2 (BitVec.ofNat 32 ((kk * 128 + b.val) * 100000 + c))) (A (ValueIdx.ix2 b (⟨c, h⟩ : Fin 100000))) else ⊤

theorem T_top (b : Fin 128) (kk c : ℕ) (h : 100000 ≤ c) : T k0 k1 k2 A b kk c = ⊤ := by unfold T; rw [dif_neg (not_lt.mpr h)]

/-- The counter of a lane at draw `0`. -/
theorem pay12_apply (i : grid0.Coords) (j : S8x2048.Idx) :
    k0_pay12 i j = BitVec.ofNat 32 (((i 0).val * 8 + (j 0).val) * 100000 + ((i 1).val * 2048 + (j 1).val)) := by
  have e8 := pay8_apply i j
  unfold k0_pay12
  generalize k0_pay8 i = p8 at e8 ⊢
  dsimp only [addi, muli, broadcast, iota, IntOp.addi, List.foldl, Scalar.muli, IntOp.muli]
  rw [e8, Nat.zero_mul, Nat.zero_add]
  apply BitVec.eq_of_toNat_eq
  simp only [BitVec.toNat_add, BitVec.toNat_mul, BitVec.toNat_ofNat]
  omega

/-- A vanishing or fractional fraction has a negative logarithm. -/
theorem log_frac_mul_bot (w : W) : Ideal.log (Score.frac w) * ⊥ = ⊤ := by
  by_cases h : Score.num w = 0
  · rw [Score.log_frac_zero w h]; rfl
  · rw [Score.log_frac w h]; exact EReal.coe_mul_bot_of_neg (by have := Score.lg_pos w; linarith)

/-- A logical right shift of a lane by nine. -/
theorem shr9 (w : IVec S8x2048 32) (j : S8x2048.Idx) : shrui w (bc 9#32) j = w j >>> 9#32 := by
  show IntOp.shrui .vector (w j) 9#32 = _
  exact if_pos (by decide)

/-- A draw's value at a lane, from its word. -/
theorem tval_apply (nrv : FVec Ideal S8x2048 .f32) (w : IVec S8x2048 32) (j : S8x2048.Idx) :
    tval nrv w j = FloatOps.mulf (FloatOps.log (FloatOps.subf (FloatOps.ofBits .f32 (shrui w (bc 9#32) j ||| 0x3F800000#32)) (FloatOps.ofBits .f32 0x3F800000#32))) (nrv j) := by
  unfold tval
  dsimp only [mulf, log, subf, bitcastToFloat, ori, broadcast]
  rfl

/-- A draw's value at a lane. -/
theorem draws_apply (i : grid0.Coords) (nrv : FVec Ideal S8x2048 .f32) (kk : ℕ) (j : S8x2048.Idx) (b : Fin 128)
    (hb : b.val = (i 0).val * 8 + (j 0).val)
    (hn : nrv j = if h : (i 1).val * 2048 + (j 1).val < 100000
      then Ideal.div (Ideal.ofBits .f32 0xBF800000#32) (A (ValueIdx.ix2 b (⟨(i 1).val * 2048 + (j 1).val, h⟩ : Fin 100000))) else (⊥ : EReal)) :
    draws k0 k1 k2 i nrv kk j = T k0 k1 k2 A b kk ((i 1).val * 2048 + (j 1).val) := by
  have hw : bits k0 k1 k2 (ctr k1 kk (k0_pay12 i)) j
      = word k0 k1 k2 (BitVec.ofNat 32 ((kk * 128 + b.val) * 100000 + ((i 1).val * 2048 + (j 1).val))) := by
    refine bits_apply _ _ _ _ _ _ ?_
    have e : ctr k1 kk (k0_pay12 i) j = k0_pay12 i j + (BitVec.ofNat 32 (kk * 12800000) + k1) := rfl
    have en : ((i 0).val * 8 + (j 0).val) * 100000 + ((i 1).val * 2048 + (j 1).val) + kk * 12800000
        = (kk * 128 + b.val) * 100000 + ((i 1).val * 2048 + (j 1).val) := by rw [hb]; omega
    rw [e, pay12_apply, ← BitVec.add_assoc, ← BitVec.ofNat_add, en]
  unfold draws
  rw [tval_apply, shr9, hw, Ideal.mulf_def, Ideal.log_def, Ideal.subf_def, Ideal.ofBits_def, Ideal.ofBits_def, hn]
  unfold T
  split
  · rfl
  · exact log_frac_mul_bot _

theorem ofBits_top : Ideal.ofBits .f32 0x7F800000#32 = (⊤ : EReal) := by
  show Ideal.ieee 8 23 (0x7F800000#32 : BitVec 32) = _
  unfold Ideal.ieee
  have h1 : ((0x7F800000#32 : BitVec 32).extractLsb' (8 + 23) 1 == 1#1) = false := by decide
  have h2 : ((0x7F800000#32 : BitVec 32).extractLsb' 23 8).toNat = 255 := by decide
  have h3 : ((0x7F800000#32 : BitVec 32).extractLsb' 0 23).toNat = 0 := by decide
  simp [h1, h2, h3]

theorem ofBits_bot : Ideal.ofBits .f32 0xFF800000#32 = (⊥ : EReal) := by
  show Ideal.ieee 8 23 (0xFF800000#32 : BitVec 32) = _
  unfold Ideal.ieee
  have h1 : ((0xFF800000#32 : BitVec 32).extractLsb' (8 + 23) 1 == 1#1) = true := by decide
  have h2 : ((0xFF800000#32 : BitVec 32).extractLsb' 23 8).toNat = 255 := by decide
  have h3 : ((0xFF800000#32 : BitVec 32).extractLsb' 0 23).toNat = 0 := by decide
  simp [h1, h2, h3]

/-- The negated reciprocals at a lane. -/
theorem pay9_apply (i : grid0.Coords) (X : Vec Ideal S8x2048 .f32) (j : S8x2048.Idx) :
    k0_pay9 i X j = if (i 1).val * 2048 + (j 1).val < 100000 then Ideal.div (Ideal.ofBits .f32 0xBF800000#32) (X j) else (⊥ : EReal) := by
  have e : k0_pay9 i X j = Scalar.select (cmpi .slt (k0_pay8 i) (broadcast S8x2048 100000#32 : IVec S8x2048 32) j)
    (FloatOps.divf (FloatOps.ofBits .f32 0xBF800000#32) (X j)) (FloatOps.ofBits .f32 0xFF800000#32 : Ideal .f32) := rfl
  rw [e, col_slt, Ideal.divf_def, Ideal.ofBits_def, Ideal.ofBits_def, ofBits_bot]
  by_cases h : (i 1).val * 2048 + (j 1).val < 100000
  · rw [decide_eq_true h, if_pos h]; rfl
  · rw [decide_eq_false h, if_neg h]; rfl

/-- The grid's coordinates. -/
theorem coords0 : ∀ t : Fin grid0.N, (grid0.coords t 0).val = t.val / 49 := by decide +kernel
theorem coords1 : ∀ t : Fin grid0.N, (grid0.coords t 1).val = t.val % 49 := by decide +kernel
theorem isFirst_iff : ∀ t : Fin grid0.N, isFirst (grid0.coords t) ↔ t.val % 49 = 0 := by decide +kernel

/-- A comparison's choice. -/
theorem select_olt {α : Type} (a b : EReal) (x y : α) :
    Scalar.select (FloatOps.cmpf (F := Ideal) (φ := .f32) .olt a b) x y = if a < b then x else y := by
  show Scalar.select (BitVec.ofBool (decide (a < b))) x y = _
  by_cases h : a < b
  · rw [decide_eq_true h, if_pos h]; rfl
  · rw [decide_eq_false h, if_neg h]; rfl

end Cert.KernelIdeal.Body
end
-- ==== Proof.Winner.lean ====
module

public import proofs.«01_k».proof.Proof.Lanes
public import Idealize.ShloMosaic.Lib.ValueLayoutCasts

@[expose] public section

/-! A finished row block: each draw of each row is the first column of the row's least score. -/

set_option maxRecDepth 16384

noncomputable section

namespace Cert.KernelIdeal.Body

open Idealize.ShloMosaic Cert.KernelIdeal Cert.KernelIdeal.Gen Cert.Words Cert.Argmin

variable (k0 k1 k2 : W) (A : S128x100000.Idx → EReal)

/-- The negated reciprocals of a point's block are those of the array `A`. -/
def Recip (nr : Fin grid0.N → FVec Ideal S8x2048 .f32) : Prop :=
  ∀ (t : Fin grid0.N) (j : S8x2048.Idx) (b : Fin 128), b.val = t.val / 49 * 8 + (j 0).val →
    nr t j = if h : t.val % 49 * 2048 + (j 1).val < 100000
      then Ideal.div (Ideal.ofBits .f32 0xBF800000#32) (A (ValueIdx.ix2 b (⟨t.val % 49 * 2048 + (j 1).val, h⟩ : Fin 100000))) else (⊥ : EReal)

variable (nr : Fin grid0.N → FVec Ideal S8x2048 .f32)

/-- One point's step of a lane. -/
theorem lane_step (hnr : Recip A nr) (t : Fin grid0.N) (X4 : Vec Ideal S32x8x2048 .f32) (X5 : Vec Ideal S32x8x2048 .i32) (y : S32x8x2048.Idx) (b : Fin 128)
    (hb : b.val = t.val / 49 * 8 + (y (1 : Fin 3)).val)
    (h : LaneInv (T k0 k1 k2 A b (y (0 : Fin 3)).val) (y (2 : Fin 3)).val (t.val % 49) (X4 y) (X5 y)) :
    LaneInv (T k0 k1 k2 A b (y (0 : Fin 3)).val) (y (2 : Fin 3)).val (t.val % 49 + 1)
      (setV (draws k0 k1 k2 (grid0.coords t) (nr t)) 0 32 X4 y) (setI (k0_pay8 (grid0.coords t)) (draws k0 k1 k2 (grid0.coords t) (nr t)) 0 32 X4 X5 y) := by
  have hk : (y (0 : Fin 3)).val < 32 := (y (0 : Fin 3)).isLt
  have hc : 0 ≤ (y (0 : Fin 3)).val ∧ (y (0 : Fin 3)).val < 0 + 32 := by omega
  have hd : draws k0 k1 k2 (grid0.coords t) (nr t) (y (0 : Fin 3)).val (lane y) = T k0 k1 k2 A b (y (0 : Fin 3)).val (t.val % 49 * 2048 + (y (2 : Fin 3)).val) := by
    have := draws_apply k0 k1 k2 A (grid0.coords t) (nr t) (y (0 : Fin 3)).val (lane y) b (by rw [coords0]; exact hb) (by
      rw [hnr t (lane y) b hb]; simp only [coords1])
    rw [coords1] at this; exact this
  have h8 : k0_pay8 (grid0.coords t) (lane y) = BitVec.ofNat 32 (t.val % 49 * 2048 + (y (2 : Fin 3)).val) := by
    rw [pay8_apply, coords1]; rfl
  unfold setV setI
  rw [if_pos hc, if_pos hc]
  unfold nv ni
  rw [hd, h8, select_olt, select_olt]
  exact h.step

/-- The scratch after point `n`. -/
theorem lane_inv (hnr : Recip A nr) (n : ℕ) (hn : n < grid0.N) (y : S32x8x2048.Idx) (b : Fin 128) (hb : b.val = n / 49 * 8 + (y (1 : Fin 3)).val) :
    LaneInv (T k0 k1 k2 A b (y (0 : Fin 3)).val) (y (2 : Fin 3)).val (n % 49 + 1) ((scr k0 k1 k2 nr (n + 1)).1 y) ((scr k0 k1 k2 nr (n + 1)).2 y) := by
  induction n with
  | zero =>
    rw [scr_succ k0 k1 k2 nr ⟨0, hn⟩]
    dsimp only
    unfold nextV nextI
    have hf : isFirst (grid0.coords ⟨0, hn⟩) := (isFirst_iff _).mpr rfl
    rw [if_pos hf, if_pos hf]
    refine lane_step k0 k1 k2 A nr hnr ⟨0, hn⟩ _ _ y b hb ?_
    have e4 : (k0_pay10 (F := Ideal)) y = (⊤ : EReal) := ofBits_top
    have e5 : k0_pay11 y = 0#32 := rfl
    rw [e4, e5]; exact LaneInv.init _ _
  | succ n ih =>
    rw [scr_succ k0 k1 k2 nr ⟨n + 1, hn⟩]
    dsimp only
    unfold nextV nextI
    by_cases hf : isFirst (grid0.coords ⟨n + 1, hn⟩)
    · have hz : (n + 1) % 49 = 0 := (isFirst_iff _).mp hf
      rw [if_pos hf, if_pos hf]
      refine lane_step k0 k1 k2 A nr hnr ⟨n + 1, hn⟩ _ _ y b hb ?_
      have e4 : (k0_pay10 (F := Ideal)) y = (⊤ : EReal) := ofBits_top
      have e5 : k0_pay11 y = 0#32 := rfl
      rw [e4, e5]; dsimp only; rw [hz]; exact LaneInv.init _ _
    · have hz : (n + 1) % 49 ≠ 0 := fun h => hf ((isFirst_iff _).mpr h)
      rw [if_neg hf, if_neg hf]
      refine lane_step k0 k1 k2 A nr hnr ⟨n + 1, hn⟩ _ _ y b hb ?_
      have hq : (n + 1) / 49 = n / 49 := by omega
      have hm : n % 49 + 1 = (n + 1) % 49 := by omega
      have := ih (by omega) (by rw [hb, hq])
      rw [hm] at this; exact this

end Cert.KernelIdeal.Body
end
-- ==== Proof.Finish.lean ====
module

public import proofs.«01_k».proof.Proof.Winner

@[expose] public section

/-! The end of a row block: the lanes' least, the smallest column that attains it, written at the draw's place. -/

set_option maxRecDepth 16384

noncomputable section

namespace Cert.KernelIdeal.Body

open Idealize.ShloMosaic Cert.KernelIdeal Cert.KernelIdeal.Gen Cert.Words Cert.Argmin

/-- The search of the lanes of a row. -/
def best (V : Fin 2048 → EReal) (I : Fin 2048 → BitVec 32) : BitVec 32 :=
  Finset.univ.fold IntOp.minsi 2147483647#32 (fun l => if V l = Finset.univ.fold min ⊤ V then I l else 2147483647#32)

/-- The least of a row's lanes. -/
theorem rowMin (v : FVec Ideal S8x2048 .f32) (r : Fin 8) :
    multiReduction .minimumf [1] S8 v 0x7F800000#32 reduces_S8x2048_S8 (.inl rfl) rfl (ValueIdx.ix1 r)
      = (Finset.univ.fold min ⊤ (fun l : Fin 2048 => v (ValueIdx.ix2 r l)) : EReal) := by
  refine (multiReduction_minimumf_eq_fold _ _ _ _ _ _).trans ?_
  rw [Shape.Reduces.fold_filter_drop_single reduces_S8x2048_S8, Ideal.ofBits_def, ofBits_top]
  refine Finset.fold_congr fun l _ => ?_
  refine congrArg v ?_
  funext a
  match a with
  | ⟨0, _⟩ => rfl
  | ⟨1, _⟩ => rfl

/-- The signed minimum of a row's lanes. -/
theorem rowMinI (v : IVec S8x2048 32) (r : Fin 8) :
    multiReductionI .minsi [1] S8 v 2147483647#32 reduces_S8x2048_S8 rfl (ValueIdx.ix1 r)
      = Finset.univ.fold IntOp.minsi 2147483647#32 (fun l : Fin 2048 => v (ValueIdx.ix2 r l)) := by
  refine (multiReductionI_eq_fold _ _ _ _ _ _).trans ?_
  rw [Shape.Reduces.fold_filter_drop_single reduces_S8x2048_S8]
  refine Finset.fold_congr fun l _ => ?_
  refine congrArg v ?_
  funext a
  match a with
  | ⟨0, _⟩ => rfl
  | ⟨1, _⟩ => rfl

/-- A column read across. -/
theorem across {α : Type} {n : ℕ} (x : S8x1.Idx → α) (h : S8x1.Broadcasts ⟨2, ![8, n]⟩) (hn : n ≠ 1) (r : Fin 8) (l : Fin n) :
    broadcastTo ⟨2, ![8, n]⟩ x h (ValueIdx.ix2 r l) = x (ValueIdx.ix2 r (0 : Fin 1)) := by
  refine broadcastTo_apply x h (ValueIdx.ix2 r l) (ValueIdx.ix2 r (0 : Fin 1)) fun ax => ?_
  match ax with
  | ⟨0, _⟩ => rfl
  | ⟨1, _⟩ => rfl

/-- An equality comparison's choice. -/
theorem select_oeq {α : Type} (a b : EReal) (x y : α) :
    Scalar.select (FloatOps.cmpf (F := Ideal) (φ := .f32) .oeq a b) x y = if a = b then x else y := by
  show Scalar.select (BitVec.ofBool (decide (a = b))) x y = _
  by_cases h : a = b
  · rw [decide_eq_true h, if_pos h]; rfl
  · rw [decide_eq_false h, if_neg h]; rfl

theorem select_true {α : Type} (x y : α) : Scalar.select (BitVec.ofBool true) x y = x := rfl

theorem select_false {α : Type} (x y : α) : Scalar.select (BitVec.ofBool false) x y = y := rfl

/-- One trip of the search. -/
theorem pay7_apply (kk : Fin k0_t1_loop.trips) (acc : IVec S8x32 32) (v : Vec Ideal S1x8x2048 .f32) (w : Vec Ideal S1x8x2048 .i32) (r : Fin 8) (c : Fin 32) :
    k0_pay7 kk acc v w (ValueIdx.ix2 r c) = if c.val = kk.val
      then best (fun l => shapeCast S8x2048 v shapeCasts_S1x8x2048_S8x2048 (ValueIdx.ix2 r l)) (fun l => shapeCast S8x2048 w shapeCasts_S1x8x2048_S8x2048 (ValueIdx.ix2 r l))
      else acc (ValueIdx.ix2 r c) := by
  have hk : kk.val < 32 := kk.isLt
  have hs : cmpi .eq (iota .tc S8x32 32 [1] iota_S8x32_d1_w32) (broadcast S8x32 (Scf.iv 0#32 1#32 kk) : IVec S8x32 32) (ValueIdx.ix2 r c)
      = BitVec.ofBool (decide (c.val = kk.val)) := by
    have e1 : (iota .tc S8x32 32 [1] iota_S8x32_d1_w32 : IVec S8x32 32) (ValueIdx.ix2 r c) = BitVec.ofNat 32 c.val := by
      dsimp only [iota, List.foldl]; rw [Nat.zero_mul, Nat.zero_add]
    have e2 : Scf.iv 0#32 1#32 kk.val = BitVec.ofNat 32 kk.val := by unfold Scf.iv; simp
    show BitVec.ofBool (_ == _) = _
    congr 1
    have hc := c.isLt
    show ((iota .tc S8x32 32 [1] iota_S8x32_d1_w32 : IVec S8x32 32) (ValueIdx.ix2 r c) == Scf.iv 0#32 1#32 kk.val) = _
    rw [e1, e2, Bool.eq_iff_iff, beq_iff_eq, decide_eq_true_iff]
    constructor
    · intro h
      have := congrArg BitVec.toNat h
      rw [BitVec.toNat_ofNat, BitVec.toNat_ofNat] at this; omega
    · intro h; rw [h]
  unfold k0_pay7
  dsimp only [select]
  rw [hs, across _ _ (by decide), shapeCast_self, ValueIdx.shapeCast_a_a1_apply, rowMinI]
  by_cases h : c.val = kk.val
  · rw [if_pos h, decide_eq_true h, select_true]
    unfold best
    refine Finset.fold_congr fun l _ => ?_
    dsimp only [cmpf, select]
    rw [across _ _ (by decide), ValueIdx.shapeCast_a_a1_apply, rowMin]
    exact select_oeq _ _ _ _
  · rw [if_neg h, decide_eq_false h, select_false]

/-- The search of the first `n` draws, at a row and a draw already searched. -/
theorem finSt_apply (V : Vec Ideal S32x8x2048 .f32) (I : Vec Ideal S32x8x2048 .i32) (n : ℕ) (hn : n ≤ k0_t1_loop.trips) (r : Fin 8) (c : Fin 32) (hc : c.val < n) :
    finSt V I n (ValueIdx.ix2 r c) = best (fun l => V (ValueIdx.ix3 c r l)) (fun l => I (ValueIdx.ix3 c r l)) := by
  induction n with
  | zero => exact absurd hc (Nat.not_lt_zero _)
  | succ n ih =>
    rw [finSt, dif_pos (show n < k0_t1_loop.trips from hn), pay7_apply]
    dsimp only
    by_cases h : c.val = n
    · rw [if_pos h]
      have e : ∀ {e : EltTy} (X : Vec Ideal S32x8x2048 e) (hk : n < 32) (l : Fin 2048), shapeCast S8x2048 (View.ld X (plane n hk)) shapeCasts_S1x8x2048_S8x2048 (ValueIdx.ix2 r l) = X (ValueIdx.ix3 c r l) := fun X hk l =>
        ld_plane X n hk (ValueIdx.ix3 c r l) h
      congr 1
      · funext l; exact e V _ l
      · funext l; exact e I _ l
    · rw [if_neg h]
      exact ih (Nat.le_of_succ_le hn) (by omega)

/-- Column `c` is the first at which a draw's times are least. -/
def IsWin (k0 k1 k2 : BitVec 32) (A : S128x100000.Idx → EReal) (b : Fin 128) (kk c : ℕ) : Prop :=
  c < 100000 ∧ (∀ c', c' < 100000 → T k0 k1 k2 A b kk c ≤ T k0 k1 k2 A b kk c') ∧ ∀ c', c' < c → T k0 k1 k2 A b kk c < T k0 k1 k2 A b kk c'

theorem IsWin.unique {k0 k1 k2 : BitVec 32} {A : S128x100000.Idx → EReal} {b : Fin 128} {kk c d : ℕ}
    (hc : IsWin k0 k1 k2 A b kk c) (hd : IsWin k0 k1 k2 A b kk d) : c = d := by
  rcases Nat.lt_trichotomy c d with h | h | h
  · exact absurd (hd.2.2 c h) (not_lt.mpr (hc.2.1 d hd.1))
  · exact h
  · exact absurd (hc.2.2 d h) (not_lt.mpr (hd.2.1 c hc.1))

open Classical in
/-- The column a draw chooses. -/
def win (k0 k1 k2 : BitVec 32) (A : S128x100000.Idx → EReal) (b : Fin 128) (kk : ℕ) : ℕ :=
  if h : ∃ c, IsWin k0 k1 k2 A b kk c then Classical.choose h else 0

theorem IsWin.win_eq {k0 k1 k2 : BitVec 32} {A : S128x100000.Idx → EReal} {b : Fin 128} {kk c : ℕ} (hc : IsWin k0 k1 k2 A b kk c) :
    win k0 k1 k2 A b kk = c := by
  have h : ∃ c, IsWin k0 k1 k2 A b kk c := ⟨c, hc⟩
  unfold win
  rw [dif_pos h]
  exact (Classical.choose_spec h).unique hc

/-- What a finished row block holds: for each of its rows and each draw, the column chosen. -/
theorem finOut_win (k0 k1 k2 : BitVec 32) (A : S128x100000.Idx → EReal) (nr : Fin grid0.N → FVec Ideal S8x2048 .f32) (hnr : Recip A nr)
    (n : ℕ) (hn : n < grid0.N) (h48 : n % 49 = 48) (r : Fin 8) (c : Fin 32) (b : Fin 128) (hb : b.val = n / 49 * 8 + r.val) :
    finOut (scr k0 k1 k2 nr (n + 1)).1 (scr k0 k1 k2 nr (n + 1)).2 (ValueIdx.ix2 r c) = BitVec.ofNat 32 (win k0 k1 k2 A b c.val) := by
  have h := finish (T k0 k1 k2 A b c.val) (fun c' hc' => T_top k0 k1 k2 A b c.val c' hc')
    (fun l => (scr k0 k1 k2 nr (n + 1)).1 (ValueIdx.ix3 c r l)) (fun l => (scr k0 k1 k2 nr (n + 1)).2 (ValueIdx.ix3 c r l))
    (fun l => by
      have := lane_inv k0 k1 k2 A nr hnr n hn (ValueIdx.ix3 c r l) b hb
      rw [h48] at this
      exact this)
  obtain ⟨w, hw, e, h1, h2⟩ := h
  have hwin : win k0 k1 k2 A b c.val = w := IsWin.win_eq ⟨hw, h1, h2⟩
  rw [hwin]
  refine (finSt_apply _ _ _ (le_refl _) r c ?_).trans e
  exact c.isLt

/-- The same at an index of the block. -/
theorem finOut_win_at (k0 k1 k2 : BitVec 32) (A : S128x100000.Idx → EReal) (nr : Fin grid0.N → FVec Ideal S8x2048 .f32) (hnr : Recip A nr)
    (n : ℕ) (hn : n < grid0.N) (h48 : n % 49 = 48) (y : S8x32.Idx) (b : Fin 128) (hb : b.val = n / 49 * 8 + (y 0).val) :
    finOut (scr k0 k1 k2 nr (n + 1)).1 (scr k0 k1 k2 nr (n + 1)).2 y = BitVec.ofNat 32 (win k0 k1 k2 A b (y 1).val) := by
  have e : y = (ValueIdx.ix2 (y 0) (y 1) : S8x32.Idx) := by
    funext a
    match a with
    | ⟨0, _⟩ => rfl
    | ⟨1, _⟩ => rfl
  exact (congrArg (finOut (scr k0 k1 k2 nr (n + 1)).1 (scr k0 k1 k2 nr (n + 1)).2) e).trans (finOut_win k0 k1 k2 A nr hnr n hn h48 (y 0) (y 1) b hb)

end Cert.KernelIdeal.Body
end
-- ==== Proof.Pick.lean ====
module

public import proofs.«01_k».proof.Proof.Finish

@[expose] public section

/-! The reference's choice, the first column whose score is the largest, is the column of the least time. -/

noncomputable section

namespace Cert.Argmin

open Idealize.ShloMosaic

/-- The smallest column at which the scores attain their maximum. -/
theorem pick {n : ℕ} (hn : n ≤ 100000) (hpos : 0 < n) (S : Fin n → EReal) :
    ∃ i : Fin n, Finset.univ.fold IntOp.minsi 2147483647#32 (fun l : Fin n => if S l = Finset.univ.fold max ⊥ S then BitVec.ofNat 32 l.val else 100000#32) = BitVec.ofNat 32 i.val
      ∧ (∀ j, S j ≤ S i) ∧ ∀ j, j < i → S j < S i := by
  obtain ⟨m1, m2⟩ := fold_max Finset.univ S
  obtain ⟨l0, -, hl0⟩ := m2 ⟨⟨0, hpos⟩, Finset.mem_univ _⟩
  set m := Finset.univ.fold max ⊥ S with hm
  have hlt : ∀ l : Fin n, (BitVec.ofNat 32 l.val).toNat = l.val := fun l => by rw [BitVec.toNat_ofNat]; have := l.isLt; omega
  obtain ⟨f1, f2, f3⟩ := fold_minsi Finset.univ (fun l : Fin n => if S l = m then BitVec.ofNat 32 l.val else 100000#32) (fun l => by
    split
    · rw [hlt]; have := l.isLt; omega
    · decide)
  have h0 := f3 l0 (Finset.mem_univ _)
  rw [if_pos hl0, hlt] at h0
  have hl := l0.isLt
  rcases f1 with h | ⟨i, -, hi⟩
  · rw [h] at h0
    exact absurd h0 (by rw [show (2147483647#32).toNat = 2147483647 from rfl]; omega)
  · by_cases hS : S i = m
    · rw [if_pos hS] at hi
      refine ⟨i, hi, fun j => hS ▸ m1 j (Finset.mem_univ _), fun j hj => ?_⟩
      rw [hS]
      refine lt_of_le_of_ne (m1 j (Finset.mem_univ _)) fun hc => ?_
      have h2 := f3 j (Finset.mem_univ _)
      rw [hi, if_pos hc, hlt, hlt] at h2
      exact absurd hj (not_lt.mpr h2)
    · rw [if_neg hS] at hi
      rw [hi] at h0
      exact absurd h0 (by rw [show (100000#32).toNat = 100000 from rfl]; omega)

end Cert.Argmin

namespace Cert.Choice

open Idealize.ShloMosaic Cert.Words Cert.KernelIdeal Cert.KernelIdeal.Body

/-- The weights are nonnegative, none more than five times one of the first eight of its row. -/
def Fine (A : S128x100000.Idx → EReal) : Prop :=
  ∀ (b : Fin 128) (v : Fin 100000), 0 ≤ A (ValueIdx.ix2 b v) ∧ ∃ v0 : Fin 100000, v0.val < 8 ∧ A (ValueIdx.ix2 b v) ≤ 5 * A (ValueIdx.ix2 b v0)

/-- The cipher's words at the first eight columns of every row and draw give a uniform number that is not zero. -/
def Nonzero (k0 k1 k2 : W) : Prop :=
  ∀ b kk v : ℕ, b < 128 → kk < 32 → v < 8 → 512 ≤ (word k0 k1 k2 (BitVec.ofNat 32 ((kk * 128 + b) * 100000 + v))).toNat

/-- The first column of the largest score is the column the kernel chooses. -/
theorem chosen (k0 k1 k2 : W) (A : S128x100000.Idx → EReal) (hA : Fine A) (hw : Nonzero k0 k1 k2) (b : Fin 128) (kk : Fin 32) (S : Fin 100000 → EReal)
    (hS : ∀ l, S l = Score.refr (word k0 k1 k2 (BitVec.ofNat 32 ((kk.val * 128 + b.val) * 100000 + l.val))) (A (ValueIdx.ix2 b l))) :
    Finset.univ.fold IntOp.minsi 2147483647#32 (fun l : Fin 100000 => if S l = Finset.univ.fold max ⊥ S then BitVec.ofNat 32 l.val else 100000#32)
      = BitVec.ofNat 32 (win k0 k1 k2 A b kk.val) := by
  obtain ⟨i, e, h1, h2⟩ := Argmin.pick (le_refl _) (by decide) S
  have hf := Score.firstMin_kern (fun l : Fin 100000 => word k0 k1 k2 (BitVec.ofNat 32 ((kk.val * 128 + b.val) * 100000 + l.val))) (fun l => A (ValueIdx.ix2 b l))
    (fun l => (hA b l).1) (fun l => by
      obtain ⟨v0, h8, hle⟩ := (hA b l).2
      refine ⟨v0, ?_, hle⟩
      have := hw b.val kk.val v0.val b.isLt kk.isLt h8
      unfold Score.num; omega) i (fun j => by
        have := h1 j; rw [hS, hS] at this; exact this) (fun j hj => by
        have := h2 j hj; rw [hS, hS] at this; exact this)
  have hT : ∀ l : Fin 100000, Body.T k0 k1 k2 A b kk.val l.val = Score.kern (word k0 k1 k2 (BitVec.ofNat 32 ((kk.val * 128 + b.val) * 100000 + l.val))) (A (ValueIdx.ix2 b l)) := fun l => by
    unfold Body.T; rw [dif_pos l.isLt]
  have hwin : IsWin k0 k1 k2 A b kk.val i.val := by
    refine ⟨i.isLt, fun c' hc' => ?_, fun c' hc' => ?_⟩
    · have := hf.1 ⟨c', hc'⟩
      rw [hT i, hT ⟨c', hc'⟩]; exact this
    · have h' : c' < 100000 := hc'.trans i.isLt
      have := hf.2 ⟨c', h'⟩ hc'
      rw [hT i, hT ⟨c', h'⟩]; exact this
  rw [e, hwin.win_eq]

end Cert.Choice
end
-- ==== Proof.Spread.lean ====
module

public import proofs.«01_k».proof.Defs
public import proofs.«01_k».proof.Proof.Gen.Pre_weights_spread
public import proofs.«01_k».proof.Proof.Pick
public import Idealize.ShloMosaic.Lib.ValueLayoutCasts

@[expose] public section

/-! What the precondition says of the weights: none is negative, and each is at most five times one of the first eight of its row. -/

set_option maxRecDepth 16384

noncomputable section

namespace Cert.Spread

open Idealize.ShloMosaic Cert.Pre_weights_spread Cert.Pre_weights_spread.Facts Cert.Choice

theorem five_eq : Ideal.ofBits .f32 0x40A00000#32 = (5 : EReal) := by
  rw [Score.ieee_normal _ 0x200000 129 (by norm_num) (by norm_num) (by norm_num) (by decide)]
  norm_num
  rfl

theorem zero_eq : Ideal.ofBits .f32 0x00000000#32 = (0 : EReal) := Ideal.ofBits_zero_f32

/-- The reduction's axis is the last. -/
theorem reduces_head : S128x8.Reduces [1] S128 := by decide

/-- A conjunction of bits that is one has both bits one. -/
theorem and_one {a b : BitVec 1} (h : a &&& b = 1#1) : a = 1#1 ∧ b = 1#1 := by
  revert a b
  decide

/-- A decision's bit is one when the decision is true. -/
theorem of_bit {p : Prop} [Decidable p] (h : BitVec.ofBool (decide p) = 1#1) : p := by
  by_contra hp
  rw [decide_eq_false hp] at h
  exact absurd h (by decide)

/-- The largest of the first eight weights of a row is one of them. -/
theorem head_max (A : S128x100000.Idx → EReal) (b : Fin 128) : ∃ v0 : Fin 100000, v0.val < 8 ∧
    Host.reduce (FloatOps.maximumf (F := Ideal) (φ := .f32)) (extractStridedSlice S128x8 ![0, 0] (A : FVec Ideal S128x100000 .f32) slices_S128x100000_S128x8_0_0) (constant S_ .f32 0xFF800000#32)
      reducesTo_S128x8_S128_d1 h_S_ (ValueIdx.ix1 b) = A (ValueIdx.ix2 b v0) := by
  obtain ⟨l, -, hl⟩ := (Argmin.fold_max Finset.univ (fun l : Fin 8 => A (ValueIdx.ix2 b (⟨l.val, by omega⟩ : Fin 100000)))).2 ⟨0, Finset.mem_univ _⟩
  refine ⟨⟨l.val, by omega⟩, l.isLt, ?_⟩
  refine (Host.reduce_eq_fold_single _ _ _ _ reduces_head h_S_ _).trans (Eq.trans ?_ hl.symm)
  have e : ∀ i, (constant S_ .f32 0xFF800000#32 : FVec Ideal S_ .f32) i = (⊥ : EReal) := fun i => KernelIdeal.Body.ofBits_bot
  rw [e]
  refine Finset.fold_congr fun k _ => ?_
  refine (extractStridedSlice_apply ![0, 0] A _ _ (ValueIdx.ix2 b (⟨k.val, by have := k.isLt; exact lt_of_lt_of_le this (by decide)⟩ : Fin 100000)) fun ax => ?_)
  match ax with
  | ⟨0, _⟩ => exact (Nat.zero_add _).symm
  | ⟨1, _⟩ => exact (Nat.zero_add _).symm

/-- The bound a weight is compared with. -/
theorem bound (X : FVec Ideal S128 .f32) (b : Fin 128) (v : Fin 100000) :
    broadcastInDim S128x100000 ![0, 1] bcast_S128x1_S128x100000_0_1 (mulf (broadcastInDim S128x1 ![] bcast_S_S128x1 (constant S_ .f32 0x40A00000#32 : FVec Ideal S_ .f32))
      (broadcastInDim S128x1 ![0] bcast_S128_S128x1_0 X)) (ValueIdx.ix2 b v) = (5 : EReal) * X (ValueIdx.ix1 b) := by
  rw [← five_eq]
  refine (broadcastInDim_apply _ bcast_S128x1_S128x100000_0_1 _ (ValueIdx.ix2 b v) (ValueIdx.ix2 b (0 : Fin 1)) fun ax => by match ax with | ⟨0, _⟩ => rfl | ⟨1, _⟩ => rfl).trans ?_
  refine congrArg (fun z : EReal => Ideal.ofBits .f32 0x40A00000#32 * z) ?_
  exact broadcastInDim_apply _ bcast_S128_S128x1_0 X (ValueIdx.ix2 b (0 : Fin 1)) (ValueIdx.ix1 b) fun ax => by match ax with | ⟨0, _⟩ => rfl

/-- The precondition's reading. -/
theorem fine (A B : S128x100000.Idx → EReal) (h : fn (F := Ideal) A B = fun _ => 1#1) : Fine A ∧ Fine B := by
  have key : ∀ (b : Fin 128) (v : Fin 100000), _ := fun b v => congrFun h (ValueIdx.ix2 b v)
  unfold fn fn_part1 at key
  dsimp only at key
  have all : ∀ (b : Fin 128) (v : Fin 100000),
      (Ideal.ofBits .f32 0x00000000#32 ≤ A (ValueIdx.ix2 b v) ∧ A (ValueIdx.ix2 b v) ≤ _) ∧ Ideal.ofBits .f32 0x00000000#32 ≤ B (ValueIdx.ix2 b v) ∧ B (ValueIdx.ix2 b v) ≤ _ := fun b v => by
    obtain ⟨h1, h2⟩ := and_one (key b v)
    obtain ⟨h3, h4⟩ := and_one h1
    obtain ⟨h5, h6⟩ := and_one h3
    exact ⟨⟨of_bit h5, of_bit h6⟩, of_bit h4, of_bit h2⟩
  constructor
  · intro b v
    obtain ⟨v0, hv, e⟩ := head_max A b
    obtain ⟨⟨h1, h2⟩, -, -⟩ := all b v
    exact ⟨zero_eq ▸ h1, v0, hv, h2.trans (le_of_eq ((bound _ b v).trans (congrArg (fun z : EReal => 5 * z) e)))⟩
  · intro b v
    obtain ⟨v0, hv, e⟩ := head_max B b
    obtain ⟨-, h1, h2⟩ := all b v
    exact ⟨zero_eq ▸ h1, v0, hv, h2.trans (le_of_eq ((bound _ b v).trans (congrArg (fun z : EReal => 5 * z) e)))⟩

end Cert.Spread
end
-- ==== Proof.NatWords.lean ====
module

public import proofs.«01_k».proof.Proof.Words

@[expose] public section

/-! The cipher on natural numbers below `2^32`. -/

namespace Cert.Words

/-- A round. -/
def roundN (r r' : ℕ) (s : ℕ × ℕ) : ℕ × ℕ :=
  ((s.1 + s.2) % 4294967296, (((s.2 <<< r) % 4294967296) ||| (s.2 >>> r')) ^^^ ((s.1 + s.2) % 4294967296))

/-- A key injection. -/
def injectN (a b : ℕ) (s : ℕ × ℕ) : ℕ × ℕ := ((s.1 + a) % 4294967296, (s.2 + b) % 4294967296)

/-- The four rounds of the even groups. -/
def evenN (s : ℕ × ℕ) : ℕ × ℕ := roundN 6 26 (roundN 26 6 (roundN 15 17 (roundN 13 19 s)))
/-- The four rounds of the odd groups. -/
def oddN (s : ℕ × ℕ) : ℕ × ℕ := roundN 24 8 (roundN 16 16 (roundN 29 3 (roundN 17 15 s)))

/-- The cipher. -/
def wordN (k0 k1 k2 n : ℕ) : ℕ :=
  let s := injectN k2 (k0 + 5) (evenN (injectN k1 (k2 + 4) (oddN (injectN k0 (k1 + 3) (evenN (injectN k2 (k0 + 2)
    (oddN (injectN k1 (k2 + 1) (evenN (injectN k0 k1 (0, n)))))))))))
  s.1 ^^^ s.2

/-- Two words and two naturals agree. -/
def Agree (s : W × W) (t : ℕ × ℕ) : Prop := s.1.toNat = t.1 ∧ s.2.toNat = t.2

theorem Agree.round {s : W × W} {t : ℕ × ℕ} (h : Agree s t) (r r' : W) :
    Agree (round r r' s) (roundN r.toNat r'.toNat t) := by
  obtain ⟨h1, h2⟩ := h
  constructor
  · show (s.1 + s.2).toNat = _
    rw [BitVec.toNat_add, h1, h2]; rfl
  · show (((s.2 <<< r) ||| (s.2 >>> r')) ^^^ (s.1 + s.2)).toNat = _
    rw [BitVec.toNat_xor, BitVec.toNat_or, BitVec.toNat_add, BitVec.shiftLeft_eq', BitVec.ushiftRight_eq', BitVec.toNat_shiftLeft, BitVec.toNat_ushiftRight, h1, h2]; rfl

theorem Agree.inject {s : W × W} {t : ℕ × ℕ} (h : Agree s t) (a b : W) (a' b' : ℕ) (ha : a.toNat = a' % 2 ^ 32) (hb : b.toNat = b' % 2 ^ 32) :
    Agree (inject a b s) (injectN a' b' t) := by
  obtain ⟨h1, h2⟩ := h
  constructor
  · show (s.1 + a).toNat = _
    rw [BitVec.toNat_add, ha, h1, Nat.add_mod_mod]; rfl
  · show (s.2 + b).toNat = _
    rw [BitVec.toNat_add, hb, h2, Nat.add_mod_mod]; rfl

theorem Agree.even {s : W × W} {t : ℕ × ℕ} (h : Agree s t) : Agree (even s) (evenN t) :=
  (((h.round 13#32 19#32).round 15#32 17#32).round 26#32 6#32).round 6#32 26#32

theorem Agree.odd {s : W × W} {t : ℕ × ℕ} (h : Agree s t) : Agree (odd s) (oddN t) :=
  (((h.round 17#32 15#32).round 29#32 3#32).round 16#32 16#32).round 24#32 8#32

theorem toNat_word (k0 k1 k2 : W) (n : ℕ) (hn : n < 2 ^ 32) :
    (word k0 k1 k2 (BitVec.ofNat 32 n)).toNat = wordN k0.toNat k1.toNat k2.toNat n := by
  have hk : ∀ (k : W), k.toNat = k.toNat % 2 ^ 32 := fun k => (Nat.mod_eq_of_lt k.isLt).symm
  have hk' : ∀ (k : W) (c : ℕ), c < 2 ^ 32 → (k + BitVec.ofNat 32 c).toNat = (k.toNat + c) % 2 ^ 32 := fun k c hc => by
    rw [BitVec.toNat_add, BitVec.toNat_ofNat, Nat.mod_eq_of_lt hc]
  have h0 : Agree (0#32, BitVec.ofNat 32 n) (0, n) := ⟨rfl, by
    show (BitVec.ofNat 32 n).toNat = n
    rw [BitVec.toNat_ofNat, Nat.mod_eq_of_lt hn]⟩
  have h := (((((h0.inject k0 k1 _ _ (hk _) (hk _)).even.inject k1 (k2 + 1#32) _ _ (hk _) (hk' k2 1 (by decide))).odd.inject k2 (k0 + 2#32) _ _ (hk _)
    (hk' k0 2 (by decide))).even.inject k0 (k1 + 3#32) _ _ (hk _) (hk' k1 3 (by decide))).odd.inject k1 (k2 + 4#32) _ _ (hk _) (hk' k2 4 (by decide))).even.inject
    k2 (k0 + 5#32) _ _ (hk _) (hk' k0 5 (by decide))
  unfold word wordN
  dsimp only
  rw [BitVec.toNat_xor, h.1, h.2]

/-- A test of all numbers below `n`. -/
def allBelow (p : ℕ → Bool) : ℕ → Bool
  | 0 => true
  | n + 1 => p n && allBelow p n

theorem allBelow_spec (p : ℕ → Bool) (n : ℕ) (h : allBelow p n = true) (k : ℕ) (hk : k < n) : p k = true := by
  induction n with
  | zero => exact absurd hk (Nat.not_lt_zero k)
  | succ n ih =>
    unfold allBelow at h
    rw [Bool.and_eq_true] at h
    rcases Nat.lt_succ_iff_lt_or_eq.mp hk with h' | h'
    · exact ih h.2 h'
    · rw [h']; exact h.1

/-- Every draw of every row below `rows` has a fraction other than zero in each of the first eight columns. -/
def check (k0 k1 k2 : ℕ) (rows : ℕ) : Bool :=
  allBelow (fun b => allBelow (fun kk => allBelow (fun v => Nat.ble 512 (wordN k0 k1 k2 ((kk * 128 + b) * 100000 + v))) 8) 32) rows

end Cert.Words
-- ==== Proof.NumX.lean ====
module

public import proofs.«01_k».proof.Proof.NatWords

@[expose] public section

/-! No draw of `x` has a vanishing fraction in the first eight columns. -/

namespace Cert.Words

set_option maxHeartbeats 0 in
theorem check_x : check 507451445 1853169794 (507451445 ^^^ 1853169794 ^^^ 0x1BD11BDA) 128 = true := by
  decide +kernel

theorem num_x (b kk v : ℕ) (hb : b < 128) (hk : kk < 32) (hv : v < 8) :
    512 ≤ (word 507451445#32 1853169794#32 (507451445#32 ^^^ 1853169794#32 ^^^ 0x1BD11BDA#32) (BitVec.ofNat 32 ((kk * 128 + b) * 100000 + v))).toNat := by
  have h := allBelow_spec _ 8 (allBelow_spec _ 32 (allBelow_spec _ 128 check_x b hb) kk hk) v hv
  rw [toNat_word _ _ _ _ (by omega)]
  exact Nat.le_of_ble_eq_true h

end Cert.Words
-- ==== Proof.NumY.lean ====
module

public import proofs.«01_k».proof.Proof.NatWords

@[expose] public section

/-! No draw of `y` has a vanishing fraction in the first eight columns. -/

namespace Cert.Words

set_option maxHeartbeats 0 in
theorem check_y : check 1948878966 4237131848 (1948878966 ^^^ 4237131848 ^^^ 0x1BD11BDA) 128 = true := by
  decide +kernel

theorem num_y (b kk v : ℕ) (hb : b < 128) (hk : kk < 32) (hv : v < 8) :
    512 ≤ (word 1948878966#32 4237131848#32 (1948878966#32 ^^^ 4237131848#32 ^^^ 0x1BD11BDA#32) (BitVec.ofNat 32 ((kk * 128 + b) * 100000 + v))).toNat := by
  have h := allBelow_spec _ 8 (allBelow_spec _ 32 (allBelow_spec _ 128 check_y b hb) kk hk) v hv
  rw [toNat_word _ _ _ _ (by omega)]
  exact Nat.le_of_ble_eq_true h

end Cert.Words
-- ==== Proof.RefBits.lean ====
module

public import proofs.«01_k».proof.Proof.Score
public import proofs.«01_k».proof.Proof.Words
public import proofs.«01_k».proof.Proof.Gen.ReferenceIdeal.Read

@[expose] public section

/-! The reference's random words: at draw `k`, row `b` and column `v`, the cipher's word of the counter `(k·128 + b)·100000 + v`. -/

set_option maxRecDepth 16384

noncomputable section

namespace Cert.RefBits

open Idealize.ShloMosaic Cert.Words Cert.ReferenceIdeal Cert.ReferenceIdeal.Read

/-- The reference's rotation of a word. -/
abbrev hrot (b r r' : W) : W := IntOp.ori (IntOp.shli .host b r) (IntOp.shrui .host b r')

/-- A round as the reference writes it. -/
theorem round_eq {a b a' b' : W} {s : W × W} (h : (a, b) = s) (r r' : W) (hr : r.toNat < 32) (hr' : r'.toNat < 32)
    (ha : a' = IntOp.addi a b) (hb : b' = IntOp.xori a' (hrot b r r')) : (a', b') = Words.round r r' s := by
  subst h ha hb
  have e2 : IntOp.shli .host b r = b <<< r := if_pos hr
  have e3 : IntOp.shrui .host b r' = b >>> r' := if_pos hr'
  unfold hrot Words.round
  rw [e2, e3]
  exact congrArg _ (BitVec.xor_comm _ _)

/-- Four rounds of an even group. -/
theorem even_eq {a b : W} {s : W × W} (h : (a, b) = s) (a0 b0 a1 b1 a2 b2 a3 b3 : W)
    (ha0 : a0 = IntOp.addi a b) (hb0 : b0 = IntOp.xori a0 (hrot b 13#32 19#32))
    (ha1 : a1 = IntOp.addi a0 b0) (hb1 : b1 = IntOp.xori a1 (hrot b0 15#32 17#32))
    (ha2 : a2 = IntOp.addi a1 b1) (hb2 : b2 = IntOp.xori a2 (hrot b1 26#32 6#32))
    (ha3 : a3 = IntOp.addi a2 b2) (hb3 : b3 = IntOp.xori a3 (hrot b2 6#32 26#32)) : (a3, b3) = even s :=
  round_eq (round_eq (round_eq (round_eq h _ _ (by decide) (by decide) ha0 hb0) _ _ (by decide) (by decide) ha1 hb1) _ _ (by decide) (by decide) ha2 hb2)
    _ _ (by decide) (by decide) ha3 hb3

/-- Four rounds of an odd group. -/
theorem odd_eq {a b : W} {s : W × W} (h : (a, b) = s) (a0 b0 a1 b1 a2 b2 a3 b3 : W)
    (ha0 : a0 = IntOp.addi a b) (hb0 : b0 = IntOp.xori a0 (hrot b 17#32 15#32))
    (ha1 : a1 = IntOp.addi a0 b0) (hb1 : b1 = IntOp.xori a1 (hrot b0 29#32 3#32))
    (ha2 : a2 = IntOp.addi a1 b1) (hb2 : b2 = IntOp.xori a2 (hrot b1 16#32 16#32))
    (ha3 : a3 = IntOp.addi a2 b2) (hb3 : b3 = IntOp.xori a3 (hrot b2 24#32 8#32)) : (a3, b3) = odd s :=
  round_eq (round_eq (round_eq (round_eq h _ _ (by decide) (by decide) ha0 hb0) _ _ (by decide) (by decide) ha1 hb1) _ _ (by decide) (by decide) ha2 hb2)
    _ _ (by decide) (by decide) ha3 hb3

/-- A key injection as the reference writes it: the words it adds are written out. -/
theorem inject_eq {a b a' b' p q : W} {s : W × W} (h : (a, b) = s) (p' q' : W) (ha : a' = IntOp.addi a p') (hb : b' = IntOp.addi b q')
    (hp : p' = p) (hq : q' = q) : (a', b') = inject p q s := by
  subst h ha hb hp hq; rfl

/-- The counter as the reference writes it. -/
theorem counter_eq (k b v : ℕ) :
    IntOp.addi (IntOp.muli (IntOp.addi (IntOp.muli (BitVec.ofNat 32 k) 128#32) (BitVec.ofNat 32 b)) 100000#32) (BitVec.ofNat 32 v)
      = BitVec.ofNat 32 ((k * 128 + b) * 100000 + v) := by
  show (BitVec.ofNat 32 k * 128#32 + BitVec.ofNat 32 b) * 100000#32 + BitVec.ofNat 32 v = _
  rw [BitVec.ofNat_add, BitVec.ofNat_mul, BitVec.ofNat_add, BitVec.ofNat_mul]

/-- The words of `x`'s draws. -/
theorem word_x (i : S32x128x100000.Idx) : val_main_v174 (F := Ideal) i
    = word 507451445#32 1853169794#32 (507451445#32 ^^^ 1853169794#32 ^^^ 0x1BD11BDA#32) (BitVec.ofNat 32 (((i 0).val * 128 + (i 1).val) * 100000 + (i 2).val)) := by
  have e2 : 507451445#32 ^^^ 1853169794#32 ^^^ 0x1BD11BDA#32 = 1805329261#32 := by decide
  rw [e2]
  have hn : val_main_v8 (F := Ideal) i = BitVec.ofNat 32 (((i 0).val * 128 + (i 1).val) * 100000 + (i 2).val) := counter_eq _ _ _
  have h0 := inject_eq (a' := val_main_v11 (F := Ideal) i) (b' := val_main_v13 (F := Ideal) i) (s := (0#32, _)) rfl 507451445#32 1853169794#32 rfl (congrArg (IntOp.addi · 1853169794#32) hn) rfl rfl
  have g1 := even_eq h0 (val_main_v14 i) (val_main_v20 i) (val_main_v21 i) (val_main_v27 i) (val_main_v28 i) (val_main_v34 i) (val_main_v35 i) (val_main_v41 i) rfl rfl rfl rfl rfl rfl rfl rfl
  have h1 := inject_eq (a' := val_main_v43 (F := Ideal) i) (b' := val_main_v45 (F := Ideal) i) (p := 1853169794#32) (q := 1805329261#32 + 1#32) g1 1853169794#32 1805329262#32 rfl rfl rfl (by decide)
  have g2 := odd_eq h1 (val_main_v46 i) (val_main_v52 i) (val_main_v53 i) (val_main_v59 i) (val_main_v60 i) (val_main_v66 i) (val_main_v67 i) (val_main_v73 i) rfl rfl rfl rfl rfl rfl rfl rfl
  have h2 := inject_eq (a' := val_main_v75 (F := Ideal) i) (b' := val_main_v77 (F := Ideal) i) (p := 1805329261#32) (q := 507451445#32 + 2#32) g2 1805329261#32 507451447#32 rfl rfl rfl (by decide)
  have g3 := even_eq h2 (val_main_v78 i) (val_main_v84 i) (val_main_v85 i) (val_main_v91 i) (val_main_v92 i) (val_main_v98 i) (val_main_v99 i) (val_main_v105 i) rfl rfl rfl rfl rfl rfl rfl rfl
  have h3 := inject_eq (a' := val_main_v107 (F := Ideal) i) (b' := val_main_v109 (F := Ideal) i) (p := 507451445#32) (q := 1853169794#32 + 3#32) g3 507451445#32 1853169797#32 rfl rfl rfl (by decide)
  have g4 := odd_eq h3 (val_main_v110 i) (val_main_v116 i) (val_main_v117 i) (val_main_v123 i) (val_main_v124 i) (val_main_v130 i) (val_main_v131 i) (val_main_v137 i) rfl rfl rfl rfl rfl rfl rfl rfl
  have h4 := inject_eq (a' := val_main_v139 (F := Ideal) i) (b' := val_main_v141 (F := Ideal) i) (p := 1853169794#32) (q := 1805329261#32 + 4#32) g4 1853169794#32 1805329265#32 rfl rfl rfl (by decide)
  have g5 := even_eq h4 (val_main_v142 i) (val_main_v148 i) (val_main_v149 i) (val_main_v155 i) (val_main_v156 i) (val_main_v162 i) (val_main_v163 i) (val_main_v169 i) rfl rfl rfl rfl rfl rfl rfl rfl
  have h5 := inject_eq (a' := val_main_v171 (F := Ideal) i) (b' := val_main_v173 (F := Ideal) i) (p := 1805329261#32) (q := 507451445#32 + 5#32) g5 1805329261#32 507451450#32 rfl rfl rfl (by decide)
  unfold word
  rw [← h5]
  rfl

/-- The words of `y`'s draws. -/
theorem word_y (i : S32x128x100000.Idx) : val_main_v373 (F := Ideal) i
    = word 1948878966#32 4237131848#32 (1948878966#32 ^^^ 4237131848#32 ^^^ 0x1BD11BDA#32) (BitVec.ofNat 32 (((i 0).val * 128 + (i 1).val) * 100000 + (i 2).val)) := by
  have e2 : 1948878966#32 ^^^ 4237131848#32 ^^^ 0x1BD11BDA#32 = 2473923556#32 := by decide
  rw [e2]
  have hn : val_main_v207 (F := Ideal) i = BitVec.ofNat 32 (((i 0).val * 128 + (i 1).val) * 100000 + (i 2).val) := counter_eq _ _ _
  have h0 := inject_eq (a' := val_main_v210 (F := Ideal) i) (b' := val_main_v212 (F := Ideal) i) (s := (0#32, _)) rfl 1948878966#32 4237131848#32 rfl (congrArg (IntOp.addi · 4237131848#32) hn) rfl rfl
  have g1 := even_eq h0 (val_main_v213 i) (val_main_v219 i) (val_main_v220 i) (val_main_v226 i) (val_main_v227 i) (val_main_v233 i) (val_main_v234 i) (val_main_v240 i) rfl rfl rfl rfl rfl rfl rfl rfl
  have h1 := inject_eq (a' := val_main_v242 (F := Ideal) i) (b' := val_main_v244 (F := Ideal) i) (p := 4237131848#32) (q := 2473923556#32 + 1#32) g1 4237131848#32 2473923557#32 rfl rfl rfl (by decide)
  have g2 := odd_eq h1 (val_main_v245 i) (val_main_v251 i) (val_main_v252 i) (val_main_v258 i) (val_main_v259 i) (val_main_v265 i) (val_main_v266 i) (val_main_v272 i) rfl rfl rfl rfl rfl rfl rfl rfl
  have h2 := inject_eq (a' := val_main_v274 (F := Ideal) i) (b' := val_main_v276 (F := Ideal) i) (p := 2473923556#32) (q := 1948878966#32 + 2#32) g2 2473923556#32 1948878968#32 rfl rfl rfl (by decide)
  have g3 := even_eq h2 (val_main_v277 i) (val_main_v283 i) (val_main_v284 i) (val_main_v290 i) (val_main_v291 i) (val_main_v297 i) (val_main_v298 i) (val_main_v304 i) rfl rfl rfl rfl rfl rfl rfl rfl
  have h3 := inject_eq (a' := val_main_v306 (F := Ideal) i) (b' := val_main_v308 (F := Ideal) i) (p := 1948878966#32) (q := 4237131848#32 + 3#32) g3 1948878966#32 4237131851#32 rfl rfl rfl (by decide)
  have g4 := odd_eq h3 (val_main_v309 i) (val_main_v315 i) (val_main_v316 i) (val_main_v322 i) (val_main_v323 i) (val_main_v329 i) (val_main_v330 i) (val_main_v336 i) rfl rfl rfl rfl rfl rfl rfl rfl
  have h4 := inject_eq (a' := val_main_v338 (F := Ideal) i) (b' := val_main_v340 (F := Ideal) i) (p := 4237131848#32) (q := 2473923556#32 + 4#32) g4 4237131848#32 2473923560#32 rfl rfl rfl (by decide)
  have g5 := even_eq h4 (val_main_v341 i) (val_main_v347 i) (val_main_v348 i) (val_main_v354 i) (val_main_v355 i) (val_main_v361 i) (val_main_v362 i) (val_main_v368 i) rfl rfl rfl rfl rfl rfl rfl rfl
  have h5 := inject_eq (a' := val_main_v370 (F := Ideal) i) (b' := val_main_v372 (F := Ideal) i) (p := 2473923556#32) (q := 1948878966#32 + 5#32) g5 2473923556#32 1948878971#32 rfl rfl rfl (by decide)
  unfold word
  rw [← h5]
  rfl

end Cert.RefBits
end
-- ==== Proof.RefDraw.lean ====
module

public import proofs.«01_k».proof.Proof.Pick
public import proofs.«01_k».proof.Proof.RefBits

@[expose] public section

/-! The reference's draws are the columns the kernel chooses. -/

set_option maxRecDepth 16384

noncomputable section

namespace Cert.RefDraw

open Idealize.ShloMosaic Cert.Words Cert.ReferenceIdeal Cert.ReferenceIdeal.Gen Cert.ReferenceIdeal.Read Cert.Choice

/-- The reference's score from a random word. -/
theorem score_eq (a : EReal) (w : W) :
    (FloatOps.subf (F := Ideal) (φ := .f32) (FloatOps.hostUnary .log a) (FloatOps.hostUnary .log (FloatOps.hostNegf (FloatOps.hostUnary .log
      (FloatOps.maximumf (FloatOps.subf (FloatOps.ofBits .f32 (IntOp.ori (IntOp.shrui .host w 9#32) 1065353216#32)) (FloatOps.ofBits .f32 0x3F800000#32))
        (FloatOps.ofBits .f32 0x00800000#32))))) : EReal) = Score.refr w a := by
  have e : IntOp.shrui .host w 9#32 = w >>> 9#32 := if_pos (by decide)
  rw [e]
  rfl

/-- The reduction's axis is the last. -/
theorem reduces_last : S32x128x100000.Reduces [2] S32x128 := by decide

/-- The largest score, as the reference's reduction writes it. -/
theorem reduce_max (S : FVec Ideal S32x128x100000 .f32) (cmax : S_.Idx → EReal) (hc : ∀ i, cmax i = ⊥)
    (j : S32x128.Idx) (s : Fin 100000 → EReal) (hs : ∀ l, S (ValueIdx.ix3 (j 0) (j 1) l) = s l) :
    Host.reduce (FloatOps.maximumf (F := Ideal) (φ := .f32)) S cmax reducesTo_S32x128x100000_S32x128_d2 h_S_ j = (Finset.univ.fold max ⊥ s : EReal) := by
  refine (Host.reduce_eq_fold_single FloatOps.maximumf S cmax _ reduces_last h_S_ j).trans ?_
  rw [hc]
  refine Finset.fold_congr fun l _ => ?_
  refine Eq.trans (congrArg S ?_) (hs l)
  funext a
  match a with
  | ⟨0, _⟩ => rfl
  | ⟨1, _⟩ => rfl
  | ⟨2, _⟩ => rfl

/-- The reference's reductions: the first column of the largest score is the column the kernel chooses. -/
theorem draw_eq (k0 k1 k2 : W) (A : S128x100000.Idx → EReal) (hA : Fine A) (hw : Nonzero k0 k1 k2) (S : FVec Ideal S32x128x100000 .f32)
    (hS : ∀ (kk : Fin 32) (b : Fin 128) (v : Fin 100000), S (ValueIdx.ix3 kk b v)
      = Score.refr (word k0 k1 k2 (BitVec.ofNat 32 ((kk.val * 128 + b.val) * 100000 + v.val))) (A (ValueIdx.ix2 b v)))
    (cmax : S_.Idx → EReal) (hmax : ∀ i, cmax i = ⊥) (cmin : S_.Idx → BitVec 32) (hmin : ∀ i, cmin i = 2147483647#32) (j : S32x128.Idx)
    (B : IVec S32x128x100000 32) (hB : ∀ l : Fin 100000, B (ValueIdx.ix3 (j 0) (j 1) l) = Scalar.select (FloatOps.cmpf (F := Ideal) (φ := .f32) .oeq (S (ValueIdx.ix3 (j 0) (j 1) l))
      (Host.reduce (FloatOps.maximumf (F := Ideal) (φ := .f32)) S cmax reducesTo_S32x128x100000_S32x128_d2 h_S_ j)) (BitVec.ofNat 32 l.val) 100000#32) :
    Host.reduce IntOp.minsi B cmin reducesTo_S32x128x100000_S32x128_d2 h_S_ j = BitVec.ofNat 32 (KernelIdeal.Body.win k0 k1 k2 A (j 1) (j 0).val) := by
  refine Eq.trans ?_ (chosen k0 k1 k2 A hA hw (j 1) (j 0) (fun l => S (ValueIdx.ix3 (j 0) (j 1) l)) fun l => hS (j 0) (j 1) l)
  refine (Host.reduce_eq_fold_single IntOp.minsi B cmin _ reduces_last h_S_ j).trans ?_
  rw [hmin]
  refine Finset.fold_congr fun l _ => ?_
  refine Eq.trans (congrArg B ?_) ((hB l).trans ?_)
  · funext a
    match a with
    | ⟨0, _⟩ => rfl
    | ⟨1, _⟩ => rfl
    | ⟨2, _⟩ => rfl
  · rw [reduce_max S cmax hmax j _ fun l => rfl]
    exact KernelIdeal.Body.select_oeq _ _ _ _

/-- The reference's score of `x` at a draw, a row and a column. -/
theorem score_x (A : S128x100000.Idx → EReal) (kk : Fin 32) (b : Fin 128) (v : Fin 100000) :
    val_main_v190 (F := Ideal) A (ValueIdx.ix3 kk b v)
      = Score.refr (word 507451445#32 1853169794#32 (507451445#32 ^^^ 1853169794#32 ^^^ 0x1BD11BDA#32) (BitVec.ofNat 32 ((kk.val * 128 + b.val) * 100000 + v.val))) (A (ValueIdx.ix2 b v)) := by
  have hw := RefBits.word_x (ValueIdx.ix3 kk b v)
  have hl : val_main_v189 (F := Ideal) A (ValueIdx.ix3 kk b v) = FloatOps.hostUnary (F := Ideal) (φ := .f32) .log (A (ValueIdx.ix2 b v)) := by
    rw [val_main_v189_apply, val_main_v188_apply, val_main_v184_apply]
    refine congrArg (fun i => FloatOps.hostUnary (F := Ideal) (φ := .f32) .log (A i)) ?_
    funext a
    match a with
    | ⟨0, _⟩ => rfl
    | ⟨1, _⟩ => rfl
  rw [val_main_v190_apply, hl, val_main_v187_apply, val_main_v186_apply, val_main_v185_apply, val_main_v183_apply, val_main_v182_apply, val_main_cst_56_apply,
    val_main_v181_apply, val_main_v180_apply, val_main_cst_apply, val_main_v179_apply, val_main_v178_apply, val_main_v177_apply, val_main_c_55_apply,
    val_main_v176_apply, val_main_v175_apply, val_main_c_54_apply, hw]
  exact score_eq _ _

/-- The draws of `x`. -/
theorem draw_x (A : S128x100000.Idx → EReal) (hA : Fine A) (hw : Nonzero 507451445#32 1853169794#32 (507451445#32 ^^^ 1853169794#32 ^^^ 0x1BD11BDA#32))
    (j : S32x128.Idx) : val_main_v197 (F := Ideal) A j
      = BitVec.ofNat 32 (KernelIdeal.Body.win 507451445#32 1853169794#32 (507451445#32 ^^^ 1853169794#32 ^^^ 0x1BD11BDA#32) A (j 1) (j 0).val) := by
  refine draw_eq _ _ _ A hA hw (val_main_v190 (F := Ideal) A) (score_x A) _ (fun i => KernelIdeal.Body.ofBits_bot) _ (fun i => rfl) j _ fun l => ?_
  rw [val_main_v196_apply, val_main_v195_apply, val_main_v194_apply, val_main_v193_apply]
  have ej : idx_main_v193 (idx_main_v194 (ValueIdx.ix3 (j 0) (j 1) l)) = j := by
    funext a
    match a with
    | ⟨0, _⟩ => rfl
    | ⟨1, _⟩ => rfl
  rw [ej]
  rfl

/-- The reference's score of `y` at a draw, a row and a column. -/
theorem score_y (A : S128x100000.Idx → EReal) (kk : Fin 32) (b : Fin 128) (v : Fin 100000) :
    val_main_v389 (F := Ideal) A (ValueIdx.ix3 kk b v)
      = Score.refr (word 1948878966#32 4237131848#32 (1948878966#32 ^^^ 4237131848#32 ^^^ 0x1BD11BDA#32) (BitVec.ofNat 32 ((kk.val * 128 + b.val) * 100000 + v.val))) (A (ValueIdx.ix2 b v)) := by
  have hw := RefBits.word_y (ValueIdx.ix3 kk b v)
  have hl : val_main_v388 (F := Ideal) A (ValueIdx.ix3 kk b v) = FloatOps.hostUnary (F := Ideal) (φ := .f32) .log (A (ValueIdx.ix2 b v)) := by
    rw [val_main_v388_apply, val_main_v387_apply, val_main_v383_apply]
    refine congrArg (fun i => FloatOps.hostUnary (F := Ideal) (φ := .f32) .log (A i)) ?_
    funext a
    match a with
    | ⟨0, _⟩ => rfl
    | ⟨1, _⟩ => rfl
  rw [val_main_v389_apply, hl, val_main_v386_apply, val_main_v385_apply, val_main_v384_apply, val_main_v382_apply, val_main_v381_apply, val_main_cst_118_apply,
    val_main_v380_apply, val_main_v379_apply, val_main_cst_117_apply, val_main_v378_apply, val_main_v377_apply, val_main_v376_apply, val_main_c_116_apply,
    val_main_v375_apply, val_main_v374_apply, val_main_c_115_apply, hw]
  exact score_eq _ _

/-- The draws of `y`. -/
theorem draw_y (A : S128x100000.Idx → EReal) (hA : Fine A) (hw : Nonzero 1948878966#32 4237131848#32 (1948878966#32 ^^^ 4237131848#32 ^^^ 0x1BD11BDA#32))
    (j : S32x128.Idx) : val_main_v396 (F := Ideal) A j
      = BitVec.ofNat 32 (KernelIdeal.Body.win 1948878966#32 4237131848#32 (1948878966#32 ^^^ 4237131848#32 ^^^ 0x1BD11BDA#32) A (j 1) (j 0).val) := by
  refine draw_eq _ _ _ A hA hw (val_main_v389 (F := Ideal) A) (score_y A) _ (fun i => KernelIdeal.Body.ofBits_bot) _ (fun i => rfl) j _ fun l => ?_
  rw [val_main_v395_apply, val_main_v394_apply, val_main_v393_apply, val_main_v392_apply]
  have ej : idx_main_v392 (idx_main_v393 (ValueIdx.ix3 (j 0) (j 1) l)) = j := by
    funext a
    match a with
    | ⟨0, _⟩ => rfl
    | ⟨1, _⟩ => rfl
  rw [ej]
  rfl

end Cert.RefDraw
end
-- ==== Proof.Out0.lean ====
module

public import proofs.«01_k».proof.Proof.Finish
public import proofs.«01_k».proof.Proof.Region0
public import Idealize.ShloMosaic.Lib.Pipeline.ValueKit.Geometry

@[expose] public section

/-! The first sampling call's result: at every row and draw, the column the draw chooses. -/

set_option maxRecDepth 16384

noncomputable section

namespace Cert.KernelIdeal.R0

open Cert.KernelIdeal Cert.KernelIdeal.Gen Cert.KernelIdeal.Body
open Idealize.ShloMosaic Idealize.ShloMosaic.TcCoe
open Idealize.ShloMosaic.Pipeline (Dat Cfg Window)

variable (V : Dev nD → Valuation τ sig (Elt Ideal))

/-- The weights the call reads. -/
abbrev weights (c : Dev nD) : S128x100000.Idx → EReal := V c (Proc.devRef .tc (Pipeline.arrRef spec0 0))

theorem index_in : ∀ t : Fin cfg0.N, win0_0.index t = ![t.val / 49, t.val % 49] := by decide +kernel
theorem index_out : ∀ t : Fin cfg0.N, win0_1.index t = ![t.val / 49, 0] := by decide +kernel

/-- A staged lane inside the array is the weight it stands for. -/
theorem stg_apply (c : Dev nD) (t : Fin grid0.N) (j : S8x2048.Idx) (i : S128x100000.Idx) (h0 : (i 0).val = t.val / 49 * 8 + (j 0).val)
    (h1 : (i 1).val = t.val % 49 * 2048 + (j 1).val) : stg V c t j = weights V c i := by
  have h : t.val % 49 * 2048 + (j 1).val < 100000 := h1 ▸ (i 1).isLt
  unfold stg Window.fill
  rw [dif_pos (moved_of_lt (grid0.coords t) j (by rw [coords1]; exact h))]
  unfold blk
  refine congrArg (V c (Proc.devRef .tc (Pipeline.arrRef spec0 0))) ?_
  have e := index_in t
  blk_ext [e]

/-- The negated reciprocals are those of the weights. -/
theorem recip (c : Dev nD) : Recip (weights V c) (nr V c) := by
  intro t j b hb
  unfold nr
  rw [pay9_apply, coords1]
  by_cases h : t.val % 49 * 2048 + (j 1).val < 100000
  · rw [if_pos h, dif_pos h, stg_apply V c t j (ValueIdx.ix2 b (⟨t.val % 49 * 2048 + (j 1).val, h⟩ : Fin 100000)) hb rfl]
  · rw [if_neg h, dif_neg h]

/-- What the call leaves in its result. -/
theorem out (c : Dev nD) : (dat V c).arrAt 1 cfg0.N
    = fun i : S128x32.Idx => BitVec.ofNat 32 (win key0 key1 key2 (weights V c) (i 0) (i 1).val) := by
  refine (dat V c).arrAt_eq_of_covers 1 _ (by decide +kernel) fun t hf y => ?_
  have h48 : t.val % 49 = 48 := (flush0_1 t).mp hf
  have e := index_out t
  rw [after_1]
  blk_simp [e]
  have hb : ((win0_1.blk t).view.emb y 0).val = t.val / 49 * 8 + (y 0).val := by blk_simp [e]
  exact finOut_win_at key0 key1 key2 (weights V c) (nr V c) (recip V c) t.val t.isLt h48 y _ hb

end Cert.KernelIdeal.R0
end
-- ==== Proof.Out1.lean ====
module

public import proofs.«01_k».proof.Proof.Finish
public import proofs.«01_k».proof.Proof.Region1
public import Idealize.ShloMosaic.Lib.Pipeline.ValueKit.Geometry

@[expose] public section

/-! The second sampling call's result: at every row and draw, the column the draw chooses. -/

set_option maxRecDepth 16384

noncomputable section

namespace Cert.KernelIdeal.R1

open Cert.KernelIdeal Cert.KernelIdeal.Gen Cert.KernelIdeal.Body
open Idealize.ShloMosaic Idealize.ShloMosaic.TcCoe
open Idealize.ShloMosaic.Pipeline (Dat Cfg Window)

variable (V : Dev nD → Valuation τ sig (Elt Ideal))

/-- The weights the call reads. -/
abbrev weights (c : Dev nD) : S128x100000.Idx → EReal := V c (Proc.devRef .tc (Pipeline.arrRef spec1 0))

theorem index_in : ∀ t : Fin cfg1.N, win1_0.index t = ![t.val / 49, t.val % 49] := by decide +kernel
theorem index_out : ∀ t : Fin cfg1.N, win1_1.index t = ![t.val / 49, 0] := by decide +kernel

/-- A staged lane inside the array is the weight it stands for. -/
theorem stg_apply (c : Dev nD) (t : Fin grid0.N) (j : S8x2048.Idx) (i : S128x100000.Idx) (h0 : (i 0).val = t.val / 49 * 8 + (j 0).val)
    (h1 : (i 1).val = t.val % 49 * 2048 + (j 1).val) : stg V c t j = weights V c i := by
  have h : t.val % 49 * 2048 + (j 1).val < 100000 := h1 ▸ (i 1).isLt
  unfold stg Window.fill
  rw [dif_pos (moved_of_lt (grid0.coords t) j (by rw [coords1]; exact h))]
  unfold blk
  refine congrArg (V c (Proc.devRef .tc (Pipeline.arrRef spec1 0))) ?_
  have e := index_in t
  blk_ext [e]

/-- The negated reciprocals are those of the weights. -/
theorem recip (c : Dev nD) : Recip (weights V c) (nr V c) := by
  intro t j b hb
  unfold nr
  rw [pay9_apply, coords1]
  by_cases h : t.val % 49 * 2048 + (j 1).val < 100000
  · rw [if_pos h, dif_pos h, stg_apply V c t j (ValueIdx.ix2 b (⟨t.val % 49 * 2048 + (j 1).val, h⟩ : Fin 100000)) hb rfl]
  · rw [if_neg h, dif_neg h]

/-- What the call leaves in its result. -/
theorem out (c : Dev nD) : (dat V c).arrAt 1 cfg1.N
    = fun i : S128x32.Idx => BitVec.ofNat 32 (win key0 key1 key2 (weights V c) (i 0) (i 1).val) := by
  refine (dat V c).arrAt_eq_of_covers 1 _ (by decide +kernel) fun t hf y => ?_
  have h48 : t.val % 49 = 48 := (flush1_1 t).mp hf
  have e := index_out t
  rw [after_1]
  blk_simp [e]
  have hb : ((win1_1.blk t).view.emb y 0).val = t.val / 49 * 8 + (y 0).val := by blk_simp [e]
  exact finOut_win_at key0 key1 key2 (weights V c) (nr V c) (recip V c) t.val t.isLt h48 y _ hb

end Cert.KernelIdeal.R1
end
-- ==== Proof.Product.lean ====
module

public import proofs.«01_k».proof.Proof.Region2
public import Idealize.ShloMosaic.Lib.Pipeline.Value
public import Idealize.ShloMosaic.Lib.Pipeline.ValueKit.Geometry
public import Idealize.ShloMosaic.Lib.ValueLayoutCasts
public import proofs.«01_k».proof.Proof.Score
public import Mathlib.Data.BitVec
public import Mathlib.Algebra.BigOperators.Fin

@[expose] public section

/-! The product call's result: at every pair of rows, the sum over the draws of the products. -/

set_option maxRecDepth 16384

noncomputable section

namespace Cert.KernelIdeal.R2

open Cert.KernelIdeal Cert.KernelIdeal.Gen
open Idealize.ShloMosaic Idealize.ShloMosaic.TcCoe
open Idealize.ShloMosaic.Pipeline (Dat Cfg Window)

/-- The product at draw `k`. -/
def prod (a : IVec S128x32 32) (b : IVec S32x128 32) (r c : Fin 128) (k : ℕ) : BitVec 32 :=
  if h : k < 32 then a (ValueIdx.ix2 r (⟨k, h⟩ : Fin 32)) * b (ValueIdx.ix2 (⟨k, h⟩ : Fin 32) c) else 0#32

/-- A column of the one factor times a row of the other. -/
theorem term_eq (a : IVec S128x32 32) (b : IVec S32x128 32) (k : ℕ) (hk : k < 32) (h1 : S128x32.Slices ![0, k] S128x1) (h2 : S32x128.Slices ![k, 0] S1x128)
    (h3 : S128x1.Broadcasts S128x128) (h4 : S1x128.Broadcasts S128x128) (r c : Fin 128) :
    muli (broadcastTo S128x128 (extractStridedSlice S128x1 ![0, k] a h1) h3) (broadcastTo S128x128 (extractStridedSlice S1x128 ![k, 0] b h2) h4) (ValueIdx.ix2 r c)
      = prod a b r c k := by
  unfold prod
  rw [dif_pos hk]
  dsimp only [muli]
  rw [broadcastTo_apply _ h3 (ValueIdx.ix2 r c) (ValueIdx.ix2 r (0 : Fin 1)) (fun ax => by match ax with | ⟨0, _⟩ => rfl | ⟨1, _⟩ => rfl),
    broadcastTo_apply _ h4 (ValueIdx.ix2 r c) (ValueIdx.ix2 (0 : Fin 1) c) (fun ax => by match ax with | ⟨0, _⟩ => rfl | ⟨1, _⟩ => rfl),
    extractStridedSlice_apply ![0, k] a h1 (ValueIdx.ix2 r (0 : Fin 1)) (ValueIdx.ix2 r (⟨k, hk⟩ : Fin 32)) (fun ax => by match ax with | ⟨0, _⟩ => exact (Nat.zero_add _).symm | ⟨1, _⟩ => rfl),
    extractStridedSlice_apply ![k, 0] b h2 (ValueIdx.ix2 (0 : Fin 1) c) (ValueIdx.ix2 (⟨k, hk⟩ : Fin 32) c) (fun ax => by match ax with | ⟨0, _⟩ => rfl | ⟨1, _⟩ => exact (Nat.zero_add _).symm)]
  rfl

theorem addi_at (x y : IVec S128x128 32) (i : S128x128.Idx) : addi x y i = x i + y i := rfl

/-- What the body stores, at a pair of rows. -/
theorem mm_apply (a : Vec Ideal S128x32 .i32) (b : Vec Ideal S32x128 .i32) (r c : Fin 128) :
    mm a b (ValueIdx.ix2 r c) = ∑ k ∈ Finset.range 32, prod a b r c k := by
  unfold mm k2_pay1 k2_pay2 k2_pay3 k2_pay4 k2_pay5 k2_pay6 k2_pay7 k2_pay8 k2_pay9
  unfold k2_pay2 k2_pay3
  dsimp only
  simp only [shapeCast_self]
  simp (disch := decide) only [addi_at, term_eq]
  simp only [Finset.sum_range_succ, Finset.sum_range_zero, zero_add]

variable (V : Dev nD → Valuation τ sig (Elt Ideal))

/-- What the call leaves in its result. -/
theorem out (c : Dev nD) : (dat V c).arrAt 2 cfg2.N
    = mm (V c (Proc.devRef .tc (Pipeline.arrRef spec2 0))) (V c (Proc.devRef .tc (Pipeline.arrRef spec2 1))) := by
  refine (dat V c).arrAt_eq_of_covers 2 _ (by decide +kernel) fun t hf y => ?_
  have e0 : ∀ t : Fin cfg2.N, win2_0.index t = ![0, 0] := by decide +kernel
  have e1 : ∀ t : Fin cfg2.N, win2_1.index t = ![0, 0] := by decide +kernel
  have e2 : ∀ t : Fin cfg2.N, win2_2.index t = ![0, 0] := by decide +kernel
  have h0 : blk0 V c t = V c (Proc.devRef .tc (Pipeline.arrRef spec2 0)) := by
    funext j
    unfold blk0
    refine congrArg (V c (Proc.devRef .tc (Pipeline.arrRef spec2 0))) ?_
    have e := e0 t
    blk_ext [e]
  have h1 : blk1 V c t = V c (Proc.devRef .tc (Pipeline.arrRef spec2 1)) := by
    funext j
    unfold blk1
    refine congrArg (V c (Proc.devRef .tc (Pipeline.arrRef spec2 1))) ?_
    have e := e1 t
    blk_ext [e]
  have h2 : ∀ y : S128x128.Idx, ((cfg2.win 2).blk t).view.emb y = y := fun y => by
    have e := e2 t
    blk_ext [e]
  rw [after_2, h0, h1]
  exact congrArg (mm _ _) (h2 y).symm

end Cert.KernelIdeal.R2
end
-- ==== Proof.KernelValue.lean ====
module

public import proofs.«01_k».proof.Proof.Out0
public import proofs.«01_k».proof.Proof.Out1
public import proofs.«01_k».proof.Proof.Product
public import proofs.«01_k».proof.Proof.Frames

@[expose] public section

/-! The kernel's result: at rows `a` and `b`, the sum over the draws of the column `x` draws at `a` times the column `y` draws at `b`. -/

set_option maxRecDepth 16384

noncomputable section

namespace Cert.KernelIdeal.Whole

open Cert.KernelIdeal Cert.KernelIdeal.Gen Cert.KernelIdeal.Body
open Idealize.ShloMosaic Idealize.ShloMosaic.TcCoe Idealize.SL.Sem

/-- The columns chosen under a key, at every row and draw. -/
def cols (k0 k1 k2 : BitVec 32) (A : S128x100000.Idx → EReal) : IVec S128x32 32 := fun i => BitVec.ofNat 32 (win k0 k1 k2 A (i 0) (i 1).val)

/-- A block of draws, its axes exchanged. -/
def swap (D : IVec S128x32 32) : IVec S32x128 32 := fun j => D (ValueIdx.ix2 (j 1) (j 0))

variable (m : (ℓ : Loc nD τ sig) → Buf (Elt Ideal) ℓ) (c : Dev nD)

theorem W3_v2 : W3 m c (Proc.devRef .tc main_v2) = swap (W2 m c (Proc.devRef .tc main_v1)) := by
  unfold W3
  generalize W2 m c = V
  have e : StableHlo.after hostOps2 V (Proc.devRef .tc main_v2) = transpose S32x128 [1, 0] (V (Proc.devRef .tc main_v1) : IVec S128x32 32) transposes_S128x32_S32x128_1_0 := by
    simp only [StableHlo.after_cons, StableHlo.after_nil]
    rfl
  rw [e]
  funext j
  refine (transpose_apply [1, 0] _ transposes_S128x32_S32x128_1_0 j (ValueIdx.ix2 (j 1) (j 0)) fun b => ?_)
  match b with
  | ⟨0, _⟩ => rfl
  | ⟨1, _⟩ => rfl

/-- The result of the kernel's program. -/
theorem result_eq : (R2.dat (W3 m) c).arrAt 2 cfg2.N
    = fun i : S128x128.Idx => ∑ k ∈ Finset.range 32, R2.prod (cols R0.key0 R0.key1 R0.key2 (m (c, Proc.devRef .tc main_arg0)))
        (swap (cols R1.key0 R1.key1 R1.key2 (m (c, Proc.devRef .tc main_arg1)))) (i 0) (i 1) k := by
  have h0 : W3 m c (Proc.devRef .tc main_v0) = cols R0.key0 R0.key1 R0.key2 (m (c, Proc.devRef .tc main_arg0)) :=
    (W3_v0 m c).trans (R0.out (W0 m) c)
  have h1 : W2 m c (Proc.devRef .tc main_v1) = cols R1.key0 R1.key1 R1.key2 (m (c, Proc.devRef .tc main_arg1)) := by
    refine (W2_v1 m c).trans ((R1.out (W1 m) c).trans ?_)
    exact congrArg (cols R1.key0 R1.key1 R1.key2) (W1_arg1 m c)
  rw [R2.out]
  have h2 := W3_v2 m c
  rw [h1] at h2
  funext i
  refine Eq.trans (congrFun (congrArg₂ R2.mm h0 h2) i) ?_
  refine Eq.trans (congrArg _ ?_) (R2.mm_apply _ _ (i 0) (i 1))
  funext a
  match a with
  | ⟨0, _⟩ => rfl
  | ⟨1, _⟩ => rfl

end Cert.KernelIdeal.Whole
end
-- ==== Proof.RefValue.lean ====
module

public import proofs.«01_k».proof.Proof.Gen.ReferenceIdeal.Run
public import proofs.«01_k».proof.Proof.RefDraw
public import proofs.«01_k».proof.Proof.KernelValue

@[expose] public section

/-! The reference's result is the kernel's. -/

set_option maxRecDepth 16384

noncomputable section

namespace Cert.RefValue

open Idealize.ShloMosaic Cert.ReferenceIdeal Cert.ReferenceIdeal.Gen Cert.ReferenceIdeal.Read Cert.Choice
open Cert.KernelIdeal.Whole (cols swap)

/-- The draws of `x`, row by row. -/
theorem cols_x (A : S128x100000.Idx → EReal) (hA : Fine A) (hw : Nonzero KernelIdeal.R0.key0 KernelIdeal.R0.key1 KernelIdeal.R0.key2) :
    val_main_v198 (F := Ideal) A = cols KernelIdeal.R0.key0 KernelIdeal.R0.key1 KernelIdeal.R0.key2 A := by
  funext j
  rw [val_main_v198_apply]
  exact RefDraw.draw_x A hA hw _

/-- The draws of `y`, row by row. -/
theorem cols_y (A : S128x100000.Idx → EReal) (hA : Fine A) (hw : Nonzero KernelIdeal.R1.key0 KernelIdeal.R1.key1 KernelIdeal.R1.key2) :
    val_main_v397 (F := Ideal) A = cols KernelIdeal.R1.key0 KernelIdeal.R1.key1 KernelIdeal.R1.key2 A := by
  funext j
  rw [val_main_v397_apply]
  exact RefDraw.draw_y A hA hw _

/-- The reduction's axis is the last. -/
theorem reduces_draws : S128x128x32.Reduces [2] S128x128 := by decide

/-- The sum of products, over the draws. -/
theorem product_eq (A B : S128x100000.Idx → EReal) (i : S128x128.Idx) : val_main_v403 (F := Ideal) A B i
    = ∑ k ∈ Finset.range 32, KernelIdeal.R2.prod (val_main_v198 (F := Ideal) A) (swap (val_main_v397 (F := Ideal) B)) (i 0) (i 1) k := by
  have e : ∀ k : Fin 32, val_main_v402 (F := Ideal) A B (reduces_draws.lift i k) = KernelIdeal.R2.prod (val_main_v198 (F := Ideal) A) (swap (val_main_v397 (F := Ideal) B)) (i 0) (i 1) k.val := fun k => by
    rw [val_main_v402_apply, val_main_v400_apply, val_main_v398_apply, val_main_v401_apply, val_main_v399_apply]
    unfold KernelIdeal.R2.prod swap
    rw [dif_pos k.isLt]
    refine congrArg₂ (fun a b : BitVec 32 => a * b) (congrArg (val_main_v198 (F := Ideal) A) ?_) (congrArg (val_main_v397 (F := Ideal) B) ?_)
    · funext a
      match a with
      | ⟨0, _⟩ => rfl
      | ⟨1, _⟩ => rfl
    · funext a
      match a with
      | ⟨0, _⟩ => rfl
      | ⟨1, _⟩ => rfl
  refine (Host.reduce_eq_fold_single IntOp.addi _ _ _ reduces_draws h_S_ i).trans ?_
  rw [Finset.sum_range, Finset.sum_eq_fold]
  exact Finset.fold_congr fun k _ => e k

end Cert.RefValue
end
-- ==== Proof.Algebraic.lean ====
module

public import proofs.«01_k».proof.Defs
public import proofs.«01_k».proof.Proof.Spread
public import proofs.«01_k».proof.Proof.NumX
public import proofs.«01_k».proof.Proof.NumY
public import proofs.«01_k».proof.Proof.RefValue

@[expose] public section

/-! On weights that meet the precondition, the kernel and the reference leave the same matrix. -/

set_option maxRecDepth 16384

noncomputable section

namespace Cert.Proof

open Idealize.ShloMosaic Idealize.SL.Sem
open Cert.KernelIdeal.Whole (cols swap)

/-- The result over two arrays of weights: the sum over the draws of the products of the columns drawn. -/
def result (A B : KernelIdeal.S128x100000.Idx → EReal) : KernelIdeal.S128x128.Idx → BitVec 32 := fun i =>
  ∑ k ∈ Finset.range 32, KernelIdeal.R2.prod (cols KernelIdeal.R0.key0 KernelIdeal.R0.key1 KernelIdeal.R0.key2 A)
    (swap (cols KernelIdeal.R1.key0 KernelIdeal.R1.key1 KernelIdeal.R1.key2 B)) (i 0) (i 1) k

/-- The reference's result is this one. -/
theorem reference_result (A B : KernelIdeal.S128x100000.Idx → EReal) (hA : Choice.Fine A) (hB : Choice.Fine B) :
    ReferenceIdeal.Read.val_main_v403 (F := Ideal) A B = result A B := by
  funext i
  rw [RefValue.product_eq, RefValue.cols_x A hA Words.num_x, RefValue.cols_y B hB Words.num_y]
  rfl

/-- What the reference leaves in its result. -/
theorem reference_run (m : (ℓ : Loc ReferenceIdeal.nD ReferenceIdeal.τ ReferenceIdeal.sig) → Buf (Elt Ideal) ℓ) (ρ : Dev ReferenceIdeal.nD → PrngReg) :
    θ_run (ReferenceIdeal.defs (F := Ideal)) (onTc (τ := ReferenceIdeal.τ) (ReferenceIdeal.main (F := Ideal))) ⟨m, fun _ => 0, ρ⟩ fun r => ∀ c : Dev ReferenceIdeal.nD,
      r.2.mem ((c.tc : Thread ReferenceIdeal.nD ReferenceIdeal.τ).loc ReferenceIdeal.main_v403)
        = ReferenceIdeal.Read.val_main_v403 (F := Ideal) (m ((c.tc : Thread ReferenceIdeal.nD ReferenceIdeal.τ).loc ReferenceIdeal.main_arg0))
            (m ((c.tc : Thread ReferenceIdeal.nD ReferenceIdeal.τ).loc ReferenceIdeal.main_arg1))
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1) :=
  (θ_run _ _ _).mono (fun _ h c => ⟨(h c).1.trans (ReferenceIdeal.Read.val_main_v403_eq (F := Ideal) (StableHlo.launchContents m c)), (h c).2⟩)
    (ReferenceIdeal.Value.run (F := Ideal) m ρ)

/-- The two programs agree. -/
theorem algebraic : Cert.algebraic_KernelIdeal_ReferenceIdeal_pre_weights_spread (hKernelIdeal := KernelIdeal.Gen.facts)
    (hReferenceIdeal := ReferenceIdeal.Gen.facts) (hPre_weights_spread := Pre_weights_spread.Gen.facts) := fun m ρ m' ρ' hpre hag =>
  ⟨fun c => result (m ((c.tc : Thread KernelIdeal.nD KernelIdeal.τ).loc KernelIdeal.main_arg0)) (m ((c.tc : Thread KernelIdeal.nD KernelIdeal.τ).loc KernelIdeal.main_arg1)),
    (θ_run _ _ _).mono (fun _ h c => ⟨(h.1 c).1.trans (KernelIdeal.Whole.result_eq m c), (h.1 c).2⟩) (KernelIdeal.Whole.run_result (F := Ideal) m ρ),
    (θ_run _ _ _).mono (fun _ h c => ⟨(h c).1.trans ((congrArg₂ (ReferenceIdeal.Read.val_main_v403 (F := Ideal)) (hag c).1 (hag c).2).trans
      (reference_result _ _ (Spread.fine _ _ (hpre c)).1 (Spread.fine _ _ (hpre c)).2)), (h c).2⟩) (reference_run m' ρ')⟩

end Cert.Proof
end
-- ==== Proof.lean ====
module

public import proofs.«01_k».proof.Defs
public import proofs.«01_k».proof.Proof.KernelFrame
public import proofs.«01_k».proof.Proof.RefFrame
public import proofs.«01_k».proof.Proof.Algebraic
public import proofs.«01_k».proof.Proof.Gen.Pre_weights_spread

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_weights_spread.Gen.facts,
  frame_kernel, frame_ideal, fun m g _ => frame_ideal m g trivial, frame_reference, fun m g _ => frame_reference m g trivial, trivial, algebraic⟩

end Cert.Proof

end
